-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "rope_rate" .f32 0xBE135D8E#32 ((-(64⁻¹ * (Real.log 10000)) : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v82) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_ReferenceIdeal.lean ====
abbrev S2048x1024 : Shape := ⟨2, ![2048, 1024]⟩
abbrev S1024x4096 : Shape := ⟨2, ![1024, 4096]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S2048x1024 .f32) (main_arg1 : FVec F S1024x4096 .f32) (main_arg2 : FVec F S1024x4096 .f32) (main_arg3 : FVec F S1024x4096 .f32) (main_arg4 : FVec F S4096x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S2048x1024 : Shape := ⟨2, ![2048, 1024]⟩
abbrev S1024x1024 : Shape := ⟨2, ![1024, 1024]⟩
abbrev S2048x128 : Shape := ⟨2, ![2048, 128]⟩
abbrev S3x256x1024 : Shape := ⟨3, ![3, 256, 1024]⟩
abbrev S8x128x1024 : Shape := ⟨3, ![8, 128, 1024]⟩
abbrev S9 : Shape := ⟨1, ![9]⟩
abbrev S_ : Shape := ⟨0, ![]⟩
abbrev S256x256 : Shape := ⟨2, ![256, 256]⟩
abbrev S1024x256 : Shape := ⟨2, ![1024, 256]⟩
abbrev S2048x256 : Shape := ⟨2, ![2048, 256]⟩
abbrev S512x1024 : Shape := ⟨2, ![512, 1024]⟩
abbrev S512x128 : Shape := ⟨2, ![512, 128]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S256x1024 : Shape := ⟨2, ![256, 1024]⟩
abbrev S1x256x1024 : Shape := ⟨3, ![1, 256, 1024]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 6
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .local _ .vmem, ⟨0, _⟩ => ⟨S2048x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .f32⟩
  | .local _ .vmem, ⟨6, _⟩ => ⟨S2048x128, .f32⟩
  | .local _ .vmem, ⟨7, _⟩ => ⟨S2048x128, .f32⟩
  | .local _ .vmem, ⟨8, _⟩ => ⟨S2048x1024, .bf16⟩
  | .local _ .vmem, ⟨9, _⟩ => ⟨S2048x1024, .bf16⟩
  | .local _ .vmem, ⟨10, _⟩ => ⟨S3x256x1024, .bf16⟩
  | .local _ .vmem, ⟨11, _⟩ => ⟨S3x256x1024, .bf16⟩
  | .local _ .vmem, ⟨12, _⟩ => ⟨S3x256x1024, .bf16⟩
  | .local _ .vmem, ⟨13, _⟩ => ⟨S3x256x1024, .bf16⟩
  | .local _ .vmem, ⟨14, _⟩ => ⟨S8x128x1024, .bf16⟩
  | .local _ .vmem, ⟨15, _⟩ => ⟨S8x128x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_101 : BitVec 32 := 4#32
  let v204 : BitVec 32 := Scalar.addi v2 c4_i32_101
  let c1_i32_102 : BitVec 32 := 1#32
  let v205 : BitVec 32 := Scalar.subi v204 c1_i32_102
  let c4_i32_103 : BitVec 32 := 4#32
  let v206 : BitVec 32 := Scalar.remsi v205 c4_i32_103
  let c512_i32 : BitVec 32 := 512#32
  let v211 : BitVec 32 := Scalar.muli v206 c512_i32
  let v212 : Index := Scalar.indexCast v211
  let c0_108 : Index := 0#32
  ![v212.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_101 : BitVec 32 := 4#32
  let v204 : BitVec 32 := Scalar.addi v2 c4_i32_101
  let c1_i32_102 : BitVec 32 := 1#32
  let v205 : BitVec 32 := Scalar.subi v204 c1_i32_102
  let c4_i32_103 : BitVec 32 := 4#32
  let v206 : BitVec 32 := Scalar.remsi v205 c4_i32_103
  let c512_i32 : BitVec 32 := 512#32
  let v211 : BitVec 32 := Scalar.muli v206 c512_i32
  let v215 : Index := Scalar.indexCast v211
  let c0_109 : Index := 0#32
  ![v215.toNat, 0]
def k0_dev3 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_211 : BitVec 32 := 1#32
  let v397 : BitVec 32 := Scalar.muli v7 c1_i32_211
  let v398 : BitVec 32 := Scalar.addi c0_i32_212 v397
  v398.toNat
def k0_off3 (d0 : Dev nD) (c1_i32_104 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v207 : BitVec 32 := Scalar.addi v2 c1_i32_104
  let c4_i32_105 : BitVec 32 := 4#32
  let v208 : BitVec 32 := Scalar.remsi v207 c4_i32_105
  let c512_i32_217 : BitVec 32 := 512#32
  let v407 : BitVec 32 := Scalar.muli v208 c512_i32_217
  let v408 : Index := Scalar.indexCast v407
  let c0_218 : Index := 0#32
  ![v408.toNat, 0]
def k0_off4 (d0 : Dev nD) (c1_i32_104 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v207 : BitVec 32 := Scalar.addi v2 c1_i32_104
  let c4_i32_105 : BitVec 32 := 4#32
  let v208 : BitVec 32 := Scalar.remsi v207 c4_i32_105
  let c512_i32_217 : BitVec 32 := 512#32
  let v407 : BitVec 32 := Scalar.muli v208 c512_i32_217
  let v411 : Index := Scalar.indexCast v407
  let c0_219 : Index := 0#32
  ![v411.toNat, 0]
def k0_dev4 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_325 : BitVec 32 := 1#32
  let v593 : BitVec 32 := Scalar.muli v5 c1_i32_325
  let v594 : BitVec 32 := Scalar.addi c0_i32_326 v593
  v594.toNat
def k0_dev5 (d0 : Dev nD) : Nat :=
  let c0_i32_452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_451 : BitVec 32 := 1#32
  let v801 : BitVec 32 := Scalar.muli v7 c1_i32_451
  let v802 : BitVec 32 := Scalar.addi c0_i32_452 v801
  v802.toNat
def k0_dev6 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_477 : BitVec 32 := 1#32
  let v828 : BitVec 32 := Scalar.muli v5 c1_i32_477
  let v829 : BitVec 32 := Scalar.addi c0_i32_478 v828
  v829.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_483 : BitVec 32 := 512#32
  let v838 : BitVec 32 := Scalar.muli v2 c512_i32_483
  let v839 : Index := Scalar.indexCast v838
  let c0_484 : Index := 0#32
  ![v839.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_483 : BitVec 32 := 512#32
  let v838 : BitVec 32 := Scalar.muli v2 c512_i32_483
  let v842 : Index := Scalar.indexCast v838
  let c0_485 : Index := 0#32
  ![v842.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_104 : BitVec 32 := 1#32
  let v207 : BitVec 32 := Scalar.addi v2 c1_i32_104
  let c4_i32_105 : BitVec 32 := 4#32
  let v208 : BitVec 32 := Scalar.remsi v207 c4_i32_105
  let c512_i32_548 : BitVec 32 := 512#32
  let v942 : BitVec 32 := Scalar.muli v208 c512_i32_548
  let v943 : Index := Scalar.indexCast v942
  let c0_549 : Index := 0#32
  ![v943.toNat, 0]
def k0_dev7 (d0 : Dev nD) : Nat :=
  let c0_i32_557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_556 : BitVec 32 := 1#32
  let v951 : BitVec 32 := Scalar.muli v7 c1_i32_556
  let v952 : BitVec 32 := Scalar.addi c0_i32_557 v951
  v952.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_101 : BitVec 32 := 4#32
  let v204 : BitVec 32 := Scalar.addi v2 c4_i32_101
  let c1_i32_102 : BitVec 32 := 1#32
  let v205 : BitVec 32 := Scalar.subi v204 c1_i32_102
  let c4_i32_103 : BitVec 32 := 4#32
  let v206 : BitVec 32 := Scalar.remsi v205 c4_i32_103
  let c512_i32_575 : BitVec 32 := 512#32
  let v972 : BitVec 32 := Scalar.muli v206 c512_i32_575
  let c256_i32 : BitVec 32 := 256#32
  let v973 : BitVec 32 := Scalar.addi v972 c256_i32
  let v974 : Index := Scalar.indexCast v973
  let c0_576 : Index := 0#32
  ![v974.toNat, 0]
def k0_dev8 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_584 : BitVec 32 := 1#32
  let v982 : BitVec 32 := Scalar.muli v5 c1_i32_584
  let v983 : BitVec 32 := Scalar.addi c0_i32_585 v982
  v983.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_652 : BitVec 32 := 512#32
  let v1093 : BitVec 32 := Scalar.muli v2 c512_i32_652
  let v1094 : Index := Scalar.indexCast v1093
  let c0_653 : Index := 0#32
  ![v1094.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_673 : BitVec 32 := 512#32
  let v1119 : BitVec 32 := Scalar.muli v2 c512_i32_673
  let c256_i32_674 : BitVec 32 := 256#32
  let v1120 : BitVec 32 := Scalar.addi v1119 c256_i32_674
  let v1121 : Index := Scalar.indexCast v1120
  let c0_675 : Index := 0#32
  ![v1121.toNat, 0]
def k0_dev9 (d0 : Dev nD) : Nat :=
  let c0_i32_686 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_685 : BitVec 32 := 1#32
  let v1133 : BitVec 32 := Scalar.muli v7 c1_i32_685
  let v1134 : BitVec 32 := Scalar.addi c0_i32_686 v1133
  v1134.toNat
def k0_dev10 (d0 : Dev nD) : Nat :=
  let c0_i32_696 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_695 : BitVec 32 := 1#32
  let v1143 : BitVec 32 := Scalar.muli v5 c1_i32_695
  let v1144 : BitVec 32 := Scalar.addi c0_i32_696 v1143
  v1144.toNat
def k0_dev11 (d0 : Dev nD) : Nat :=
  let c0_i32_706 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_705 : BitVec 32 := 1#32
  let v1153 : BitVec 32 := Scalar.muli v7 c1_i32_705
  let v1154 : BitVec 32 := Scalar.addi c0_i32_706 v1153
  v1154.toNat
def k0_dev12 (d0 : Dev nD) : Nat :=
  let c0_i32_716 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_715 : BitVec 32 := 1#32
  let v1163 : BitVec 32 := Scalar.muli v5 c1_i32_715
  let v1164 : BitVec 32 := Scalar.addi c0_i32_716 v1163
  v1164.toNat
def k0_dev13 (d0 : Dev nD) : Nat :=
  let c0_i32_739 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_738 : BitVec 32 := 1#32
  let v1186 : BitVec 32 := Scalar.muli v7 c1_i32_738
  let v1187 : BitVec 32 := Scalar.addi c0_i32_739 v1186
  v1187.toNat
def k0_off11 (d0 : Dev nD) (c1_i32_721 : BitVec 32) (c0_i32_748 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v1173 : BitVec 32 := Scalar.addi v2 c8_i32
  let v1174 : BitVec 32 := Scalar.subi v1173 c1_i32_721
  let c4_i32_722 : BitVec 32 := 4#32
  let v1175 : BitVec 32 := Scalar.remsi v1174 c4_i32_722
  let c512_i32_747 : BitVec 32 := 512#32
  let v1199 : BitVec 32 := Scalar.muli v1175 c512_i32_747
  let v1200 : BitVec 32 := Scalar.addi v1199 c0_i32_748
  let v1201 : Index := Scalar.indexCast v1200
  let c0_749 : Index := 0#32
  ![v1201.toNat, 0]
def k0_dev14 (d0 : Dev nD) : Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_764 : BitVec 32 := 1#32
  let v1211 : BitVec 32 := Scalar.muli v5 c1_i32_764
  let v1212 : BitVec 32 := Scalar.addi c0_i32_765 v1211
  v1212.toNat
def k0_off12 (d0 : Dev nD) (c1_i32_723 : BitVec 32) (c0_i32_775 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1176 : BitVec 32 := Scalar.addi v2 c1_i32_723
  let c4_i32_724 : BitVec 32 := 4#32
  let v1177 : BitVec 32 := Scalar.remsi v1176 c4_i32_724
  let c512_i32_773 : BitVec 32 := 512#32
  let v1224 : BitVec 32 := Scalar.muli v1177 c512_i32_773
  let c256_i32_774 : BitVec 32 := 256#32
  let v1225 : BitVec 32 := Scalar.addi v1224 c256_i32_774
  let v1226 : BitVec 32 := Scalar.addi v1225 c0_i32_775
  let v1227 : Index := Scalar.indexCast v1226
  let c0_776 : Index := 0#32
  ![v1227.toNat, 0]
def k0_dev15 (d0 : Dev nD) : Nat :=
  let c0_i32_791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_790 : BitVec 32 := 1#32
  let v1237 : BitVec 32 := Scalar.muli v7 c1_i32_790
  let v1238 : BitVec 32 := Scalar.addi c0_i32_791 v1237
  v1238.toNat
def k0_dev16 (d0 : Dev nD) : Nat :=
  let c0_i32_815 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_814 : BitVec 32 := 1#32
  let v1262 : BitVec 32 := Scalar.muli v5 c1_i32_814
  let v1263 : BitVec 32 := Scalar.addi c0_i32_815 v1262
  v1263.toNat
def k0_dev17 (d0 : Dev nD) : Nat :=
  let c0_i32_846 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_845 : BitVec 32 := 1#32
  let v1293 : BitVec 32 := Scalar.muli v7 c1_i32_845
  let v1294 : BitVec 32 := Scalar.addi c0_i32_846 v1293
  v1294.toNat
def k0_dev18 (d0 : Dev nD) : Nat :=
  let c0_i32_871 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_870 : BitVec 32 := 1#32
  let v1318 : BitVec 32 := Scalar.muli v5 c1_i32_870
  let v1319 : BitVec 32 := Scalar.addi c0_i32_871 v1318
  v1319.toNat
def k0_dev19 (d0 : Dev nD) : Nat :=
  let c0_i32_898 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_897 : BitVec 32 := 1#32
  let v1344 : BitVec 32 := Scalar.muli v7 c1_i32_897
  let v1345 : BitVec 32 := Scalar.addi c0_i32_898 v1344
  v1345.toNat
def k0_dev20 (d0 : Dev nD) : Nat :=
  let c0_i32_923 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_922 : BitVec 32 := 1#32
  let v1369 : BitVec 32 := Scalar.muli v5 c1_i32_922
  let v1370 : BitVec 32 := Scalar.addi c0_i32_923 v1369
  v1370.toNat
def k0_off13 (d0 : Dev nD) (c0_i32_954 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_935 : BitVec 32 := 4#32
  let v1387 : BitVec 32 := Scalar.addi v2 c4_i32_935
  let c1_i32_936 : BitVec 32 := 1#32
  let v1388 : BitVec 32 := Scalar.addi v1387 c1_i32_936
  let c4_i32_937 : BitVec 32 := 4#32
  let v1389 : BitVec 32 := Scalar.remsi v1388 c4_i32_937
  let c512_i32_953 : BitVec 32 := 512#32
  let v1404 : BitVec 32 := Scalar.muli v1389 c512_i32_953
  let v1405 : BitVec 32 := Scalar.addi v1404 c0_i32_954
  let v1406 : Index := Scalar.indexCast v1405
  let c0_955 : Index := 0#32
  ![v1406.toNat, 0]
def k0_off14 (d0 : Dev nD) (c0_i32_971 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_938 : BitVec 32 := 4#32
  let v1390 : BitVec 32 := Scalar.addi v2 c4_i32_938
  let c1_i32_939 : BitVec 32 := 1#32
  let v1391 : BitVec 32 := Scalar.subi v1390 c1_i32_939
  let c4_i32_940 : BitVec 32 := 4#32
  let v1392 : BitVec 32 := Scalar.remsi v1391 c4_i32_940
  let c512_i32_969 : BitVec 32 := 512#32
  let v1419 : BitVec 32 := Scalar.muli v1392 c512_i32_969
  let c256_i32_970 : BitVec 32 := 256#32
  let v1420 : BitVec 32 := Scalar.addi v1419 c256_i32_970
  let v1421 : BitVec 32 := Scalar.addi v1420 c0_i32_971
  let v1422 : Index := Scalar.indexCast v1421
  let c0_972 : Index := 0#32
  ![v1422.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "rope_rate" => some ((-(64⁻¹ * (Real.log 10000)) : ℝ) : EReal)
  | _ => none
-- ==== ReferenceIdeal.lean ====
abbrev S2048x1024 : Shape := ⟨2, ![2048, 1024]⟩
abbrev S1024x4096 : Shape := ⟨2, ![1024, 4096]⟩
abbrev S4096x1024 : Shape := ⟨2, ![4096, 1024]⟩
abbrev S1x2048x1024 : Shape := ⟨3, ![1, 2048, 1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x64x2 : Shape := ⟨3, ![2048, 64, 2]⟩
abbrev S2048x128 : Shape := ⟨2, ![2048, 128]⟩
abbrev S1x2048x4096 : Shape := ⟨3, ![1, 2048, 4096]⟩
abbrev S1x2048x32x128 : Shape := ⟨4, ![1, 2048, 32, 128]⟩
abbrev S1x2048x32x64x2 : Shape := ⟨5, ![1, 2048, 32, 64, 2]⟩
abbrev S1x2048x32x64x1 : Shape := ⟨5, ![1, 2048, 32, 64, 1]⟩
abbrev S1x2048x32x64 : Shape := ⟨4, ![1, 2048, 32, 64]⟩
abbrev S1x2048x1x128 : Shape := ⟨4, ![1, 2048, 1, 128]⟩
abbrev S1x32x2048x2048 : Shape := ⟨4, ![1, 32, 2048, 2048]⟩
abbrev S1x32x2048 : Shape := ⟨3, ![1, 32, 2048]⟩
abbrev S1x32x2048x1 : Shape := ⟨4, ![1, 32, 2048, 1]⟩
abbrev S1x32x128x2048 : Shape := ⟨4, ![1, 32, 128, 2048]⟩

abbrev nBuf : Space → Nat
  | .hbm => 96
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S1x2048x1024, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S2048, .i32⟩
  | .hbm, ⟨24, _⟩ => ⟨S2048x1, .i32⟩
  | .hbm, ⟨25, _⟩ => ⟨S1x64, .f32⟩
  | .hbm, ⟨26, _⟩ => ⟨S2048x1, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S2048x64x2, .f32⟩
  | .hbm, ⟨32, _⟩ => ⟨S2048x128, .f32⟩
  | .hbm, ⟨33, _⟩ => ⟨S2048x64, .f32⟩
  | .hbm, ⟨34, _⟩ => ⟨S2048x64x2, .f32⟩
  | .hbm, ⟨35, _⟩ => ⟨S2048x128, .f32⟩
  | .hbm, ⟨36, _⟩ => ⟨S1x2048x4096, .f32⟩
  | .hbm, ⟨37, _⟩ => ⟨S1x2048x32x128, .f32⟩
  | .hbm, ⟨38, _⟩ => ⟨S1x2048x32x64x2, .f32⟩
  | .hbm, ⟨39, _⟩ => ⟨S1x2048x32x64x1, .f32⟩
  | .hbm, ⟨40, _⟩ => ⟨S1x2048x32x64, .f32⟩
  | .hbm, ⟨41, _⟩ => ⟨S1x2048x32x64, .f32⟩
  | .hbm, ⟨42, _⟩ => ⟨S1x2048x32x64x1, .f32⟩
  | .hbm, ⟨43, _⟩ => ⟨S1x2048x32x64, .f32⟩
  | .hbm, ⟨44, _⟩ => ⟨S1x2048x32x64x1, .f32⟩
  | .hbm, ⟨45, _⟩ => ⟨S1x2048x32x64x1, .f32⟩
  | .hbm, ⟨46, _⟩ => ⟨S1x2048x32x64x2, .f32⟩
  | .hbm, ⟨47, _⟩ => ⟨S1x2048x32x128, .f32⟩
  | .hbm, ⟨48, _⟩ => ⟨S1x2048x1x128, .f32⟩
  | .hbm, ⟨49, _⟩ => ⟨S1x2048x32x128, .f32⟩
  | .hbm, ⟨50, _⟩ => ⟨S1x2048x32x128, .f32⟩
  | .hbm, ⟨51, _⟩ => ⟨S1x2048x1x128, .f32⟩
  | .hbm, ⟨52, _⟩ => ⟨S1x2048x32x128, .f32⟩
  | .hbm, ⟨53, _⟩ => ⟨S1x2048x32x128, .f32⟩
  | .hbm, ⟨54, _⟩ => ⟨S1x2048x32x128, .f32⟩
  | .hbm, ⟨55, _⟩ => ⟨S1x2048x4096, .f32⟩
  | .hbm, ⟨56, _⟩ => ⟨S1x2048x32x128, .f32⟩
  | .hbm, ⟨57, _⟩ => ⟨S1x2048x32x64x2, .f32⟩
  | .hbm, ⟨58, _⟩ => ⟨S1x2048x32x64x1, .f32⟩
  | .hbm, ⟨59, _⟩ => ⟨S1x2048x32x64, .f32⟩
  | .hbm, ⟨60, _⟩ => ⟨S1x2048x32x64, .f32⟩
  | .hbm, ⟨61, _⟩ => ⟨S1x2048x32x64x1, .f32⟩
  | .hbm, ⟨62, _⟩ => ⟨S1x2048x32x64, .f32⟩
  | .hbm, ⟨63, _⟩ => ⟨S1x2048x32x64x1, .f32⟩
  | .hbm, ⟨64, _⟩ => ⟨S1x2048x32x64x1, .f32⟩
  | .hbm, ⟨65, _⟩ => ⟨S1x2048x32x64x2, .f32⟩
  | .hbm, ⟨66, _⟩ => ⟨S1x2048x32x128, .f32⟩
  | .hbm, ⟨67, _⟩ => ⟨S1x2048x1x128, .f32⟩
  | .hbm, ⟨68, _⟩ => ⟨S1x2048x32x128, .f32⟩
  | .hbm, ⟨69, _⟩ => ⟨S1x2048x32x128, .f32⟩
  | .hbm, ⟨70, _⟩ => ⟨S1x2048x1x128, .f32⟩
  | .hbm, ⟨71, _⟩ => ⟨S1x2048x32x128, .f32⟩
  | .hbm, ⟨72, _⟩ => ⟨S1x2048x32x128, .f32⟩
  | .hbm, ⟨73, _⟩ => ⟨S1x2048x32x128, .f32⟩
  | .hbm, ⟨74, _⟩ => ⟨S1x2048x4096, .f32⟩
  | .hbm, ⟨75, _⟩ => ⟨S1x2048x32x128, .f32⟩
  | .hbm, ⟨76, _⟩ => ⟨S1x32x2048x2048, .f32⟩
  | .hbm, ⟨77, _⟩ => ⟨S_, .f32⟩
  | .hbm, ⟨78, _⟩ => ⟨S1x32x2048x2048, .f32⟩
  | .hbm, ⟨79, _⟩ => ⟨S1x32x2048x2048, .f32⟩
  | .hbm, ⟨80, _⟩ => ⟨S_, .f32⟩
  | .hbm, ⟨81, _⟩ => ⟨S1x32x2048, .f32⟩
  | .hbm, ⟨82, _⟩ => ⟨S1x32x2048x1, .f32⟩
  | .hbm, ⟨83, _⟩ => ⟨S1x32x2048x2048, .f32⟩
  | .hbm, ⟨84, _⟩ => ⟨S1x32x2048x2048, .f32⟩
  | .hbm, ⟨85, _⟩ => ⟨S1x32x2048x2048, .f32⟩
  | .hbm, ⟨86, _⟩ => ⟨S_, .f32⟩
  | .hbm, ⟨87, _⟩ => ⟨S1x32x2048, .f32⟩
  | .hbm, ⟨88, _⟩ => ⟨S1x32x2048x1, .f32⟩
  | .hbm, ⟨89, _⟩ => ⟨S1x32x2048x2048, .f32⟩
  | .hbm, ⟨90, _⟩ => ⟨S1x32x2048x2048, .f32⟩
  | .hbm, ⟨91, _⟩ => ⟨S1x32x128x2048, .f32⟩
  | .hbm, ⟨92, _⟩ => ⟨S1x2048x32x128, .f32⟩
  | .hbm, ⟨93, _⟩ => ⟨S1x2048x4096, .f32⟩
  | .hbm, ⟨94, _⟩ => ⟨S1x2048x1024, .f32⟩
  | .hbm, ⟨95, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_3 : Ref sig .tc := ⟨.hbm, 77, rfl⟩
abbrev main_v67 : Ref sig .tc := ⟨.hbm, 78, rfl⟩
abbrev main_v68 : Ref sig .tc := ⟨.hbm, 79, rfl⟩
abbrev main_cst_4 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_5 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩

abbrev nD : Nat := 1
abbrev τ : Topo := Topo.v7x

variable {F : FTy → Type} [FloatOps F]
-- ==== Proof.Talk.lean ====
/-
  The conversation between the devices, apart from what is computed.

  The four devices form a ring; `right` is the next device, `left` the one before. Two streams run at once: the
  clockwise one (direction `false`) sends to the right, the counter-clockwise one (direction `true`) to the left.
  Each stream has nine transfers: three that carry partial sums (`Sum.inl`, 256 rows each) and six that carry
  finished rows around (`Sum.inr`, 128 rows each). A transfer has a semaphore on the sender and one on the receiver.
  Before the first transfer every device tells both neighbours, on the barrier semaphore, that its landing slots are
  free; the signal to a neighbour hands that neighbour the slots it will write.

  The contents of the transfers are a parameter here: `CX c d h` is what device `c` sends in direction `d` with
  transfer `h`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the launch's copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The ring -/

set_option backward.proofsInPublic true in
def right (c : Dev nD) : Dev nD := ⟨(c.val + 1) % 4, Nat.mod_lt _ (by decide)⟩
set_option backward.proofsInPublic true in
def left (c : Dev nD) : Dev nD := ⟨(c.val + 3) % 4, Nat.mod_lt _ (by decide)⟩

theorem left_right (c : Dev nD) : left (right c) = c := by revert c; decide
theorem right_left (c : Dev nD) : right (left c) = c := by revert c; decide

/-- Where device `c` sends in direction `d`, and whom it receives from. -/
def tgt (d : Bool) (c : Dev nD) : Dev nD := match d with | false => right c | true => left c
def src (d : Bool) (c : Dev nD) : Dev nD := match d with | false => left c | true => right c

theorem src_tgt (d : Bool) (c : Dev nD) : src d (tgt d c) = c := by cases d; exact left_right c; exact right_left c
theorem tgt_src (d : Bool) (c : Dev nD) : tgt d (src d c) = c := by cases d; exact right_left c; exact left_right c

/-- One step around the ring in direction `d`. -/
def ring (d : Bool) : Dev nD ≃ Dev nD := ⟨tgt d, src d, src_tgt d, tgt_src d⟩

/-! ## Transfers, their slots and their semaphores -/

/-- A transfer of one stream: three of partial sums, six of finished rows. -/
abbrev Ch : Type := Fin 3 ⊕ Fin 6

/-- The place of a transfer in its stream. -/
def num : Ch → ℕ | .inl j => j.val | .inr j => 3 + j.val

/-- The shape a transfer carries. -/
abbrev sh : Ch → Shape | .inl _ => S256x1024 | .inr _ => S128x1024

theorem inb3 (k : Fin 3) : ∀ a, (![k.val, 0, 0] : Fin 3 → Nat) a + S1x256x1024.size a ≤ S3x256x1024.size a := by
  revert k; decide
theorem inb8 (k : Fin 8) : ∀ a, (![k.val, 0, 0] : Fin 3 → Nat) a + S1x128x1024.size a ≤ S8x128x1024.size a := by
  revert k; decide

abbrev rect3 (k : Fin 3) : Rect S3x256x1024 := Rect.unit (s := S3x256x1024) ![k.val, 0, 0] S1x256x1024.size (inb3 k)
abbrev rect8 (k : Fin 8) : Rect S8x128x1024 := Rect.unit (s := S8x128x1024) ![k.val, 0, 0] S1x128x1024.size (inb8 k)

/-- Slot `k` of a three-slot buffer, and of an eight-slot one. -/
abbrev slot3 (M : Memref sig .tc .vmem S3x256x1024 .bf16) (k : Fin 3) : Memref sig .tc .vmem S256x1024 .bf16 :=
  (M.slice (rect3 k) (fun _ => rfl)).squeeze S256x1024 squeezes_S1x256x1024_S256x1024
abbrev slot8 (M : Memref sig .tc .vmem S8x128x1024 .bf16) (k : Fin 8) : Memref sig .tc .vmem S128x1024 .bf16 :=
  (M.slice (rect8 k) (fun _ => rfl)).squeeze S128x1024 squeezes_S1x128x1024_S128x1024

/-- Where partial sums land, where they are sent from, and the finished rows. -/
abbrev rsM (d : Bool) : Memref sig .tc .vmem S3x256x1024 .bf16 := match d with
  | false => Memref.whole cc0_scratch4 | true => Memref.whole cc0_scratch5
abbrev sbM (d : Bool) : Memref sig .tc .vmem S3x256x1024 .bf16 := match d with
  | false => Memref.whole cc0_scratch6 | true => Memref.whole cc0_scratch7
abbrev agM (d : Bool) : Memref sig .tc .vmem S8x128x1024 .bf16 := match d with
  | false => Memref.whole cc0_scratch8 | true => Memref.whole cc0_scratch9

set_option backward.proofsInPublic true in
abbrev lo8 (j : Fin 6) : Fin 8 := ⟨j.val, by omega⟩
set_option backward.proofsInPublic true in
abbrev hi8 (j : Fin 6) : Fin 8 := ⟨j.val + 2, by omega⟩

/-- The slot a transfer is sent from and the slot it lands in. -/
abbrev srcM (d : Bool) : (h : Ch) → Memref sig .tc .vmem (sh h) .bf16
  | .inl j => slot3 (sbM d) j
  | .inr j => slot8 (agM d) (lo8 j)
abbrev landM (d : Bool) : (h : Ch) → Memref sig .tc .vmem (sh h) .bf16
  | .inl j => slot3 (rsM d) j
  | .inr j => slot8 (agM d) (hi8 j)

/-- The share of its source a transfer takes: of the finished rows a half, since they are read meanwhile. -/
def shr : Ch → PosShare TreeShare | .inl _ => fullShare | .inr _ => fullShare.left

/-- A cell of the conversation: the barrier's, or a transfer's at the receiver (`true`) or the sender (`false`). -/
abbrev CellKind : Type := Option (Bool × Bool × Ch)

theorem semIx_lt (b d : Bool) (h : Ch) : 6 + 18 * d.toNat + 9 * b.toNat + num h < 42 := by revert b d h; decide

set_option backward.proofsInPublic true in
/-- The semaphore of a transfer. -/
abbrev xsem (b d : Bool) (h : Ch) : DmaSem sig := ⟨6 + 18 * d.toNat + 9 * b.toNat + num h, semIx_lt b d h⟩

/-- The barrier semaphore. -/
abbrev barS : Sem sig := (SemArray.scalar (sig.barrier 0 rfl) : Sems sig S_).sem

def csem : CellKind → SemLoc sig
  | none => .reg barS
  | some (b, d, h) => .dma (xsem b d h)

set_option backward.proofsInPublic true in
/-- A transfer by its place. -/
def chOf (n : ℕ) : Ch := if h : n < 3 then .inl ⟨n, h⟩ else .inr ⟨(n - 3) % 6, Nat.mod_lt _ (by decide)⟩

/-- Which cell of the conversation a semaphore is, if any. -/
def kind : SemLoc sig → Option CellKind
  | .reg q => if q = barS then some none else none
  | .dma q => if q.val < 6 then none else
      some (some (decide ((q.val - 6) / 9 % 2 = 1), decide ((q.val - 6) / 18 = 1), chOf ((q.val - 6) % 9)))

theorem kind_csem (k : CellKind) : kind (csem k) = some k := by revert k; decide
theorem csem_injective : Function.Injective csem := fun a b h =>
  Option.some.inj ((kind_csem a).symm.trans ((congrArg kind h).trans (kind_csem b)))

abbrev kcell (ck : Dev nD × CellKind) : GSem nD τ sig := ((ck.1 : Thread nD τ), csem ck.2)
abbrev barCell (c : Dev nD) : GSem nD τ sig := ((c : Thread nD τ), .reg barS)
abbrev xCell (b : Bool) (c : Dev nD) (d : Bool) (h : Ch) : GSem nD τ sig := ((c : Thread nD τ), .dma (xsem b d h))
abbrev sendCell := xCell false
abbrev recvCell := xCell true

theorem kcell_injective : Function.Injective (kcell : Dev nD × CellKind → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl

/-- What a transfer counts on its semaphores. -/
def amt (h : Ch) : ℕ := (landM false h).view.dmaCredit
theorem amt_pos (h : Ch) : 0 < amt h := by
  unfold amt; rcases h with j | j
  · exact View.dmaCredit_pos _ (show 0 < S256x1024.numel by decide)
  · exact View.dmaCredit_pos _ (show 0 < S128x1024.numel by decide)

theorem land_amount (d : Bool) (h : Ch) : (landM d h).view.amount (.dma (xsem true d h)) = amt h := by
  cases d <;> rcases h with j | j <;> rfl

/-! ## What the cells hand over -/

section Sched

variable (CX : Dev nD → Bool → (h : Ch) → Vec F (sh h) .bf16)

/-- A landing slot, at whatever contents. -/
def landE (c : Dev nD) (d : Bool) (h : Ch) : sProp 𝕄 := iprop(∃ X, owns (c : Thread nD τ) (landM d h) fullShare X)
/-- Duty `d` of `c`'s barrier: the landing slots `c` will write in direction `d`. -/
def barPay (c : Dev nD) (d : Bool) : sProp 𝕄 := bigSep Finset.univ fun h : Ch => landE (tgt d c) d h
/-- What a landing hands its receiver, and what comes back to its sender. -/
def recvPay (c : Dev nD) (d : Bool) (h : Ch) : sProp 𝕄 := owns (c : Thread nD τ) (landM d h) fullShare (CX (src d c) d h)
def sendPay (c : Dev nD) (d : Bool) (h : Ch) : sProp 𝕄 := owns (c : Thread nD τ) (srcM d h) (shr h) (CX c d h)

instance landE_storable (c : Dev nD) (d : Bool) (h : Ch) : BI.Storable (upEmb : UEmb _ 𝕄) (landE (F := F) c d h) := by
  unfold landE; infer_instance
instance barPay_storable (c : Dev nD) (d : Bool) : BI.Storable (upEmb : UEmb _ 𝕄) (barPay (F := F) c d) := by
  unfold barPay; infer_instance
instance recvPay_storable (c : Dev nD) (d : Bool) (h : Ch) : BI.Storable (upEmb : UEmb _ 𝕄) (recvPay CX c d h) := by
  unfold recvPay; infer_instance
instance sendPay_storable (c : Dev nD) (d : Bool) (h : Ch) : BI.Storable (upEmb : UEmb _ 𝕄) (sendPay CX c d h) := by
  unfold sendPay; infer_instance

def dutiesOf : Option CellKind → Finset Bool
  | some none => Finset.univ | some (some _) => {false} | none => ∅
def amountOf : Option CellKind → ℕ
  | some (some (_, _, h)) => amt h | _ => 1
def payloadOf (c : Dev nD) (d : Bool) : Option CellKind → sProp 𝕄
  | some none => barPay c d
  | some (some (true, e, h)) => recvPay CX c e h
  | some (some (false, e, h)) => sendPay CX c e h
  | none => iprop(emp)

/-- One round: a barrier has a duty of one unit for each neighbour, a transfer's cell one duty of the whole amount. -/
def ringRd : Rounds.Schedule (GSem nD τ sig) Bool 𝕄 where
  duties g r := if r = 0 ∧ g.1.2 = .tc then dutiesOf (kind g.2) else ∅
  unitless _ := False
  amount g _ _ := amountOf (kind g.2)
  payload g _ d := payloadOf CX g.1.1 d (kind g.2)
  amount_pos g _ _ _ := by
    unfold amountOf; split
    · exact amt_pos _
    · exact Nat.one_pos

instance ringRd_payload_storable (g : GSem nD τ sig) (r : ℕ) (d : Bool) :
    BI.Storable (upEmb : UEmb _ 𝕄) ((ringRd (F := F) CX).payload g r d) := by
  show BI.Storable upEmb (payloadOf CX g.1.1 d (kind g.2))
  rcases kind g.2 with _ | _ | ⟨_ | _, e, h⟩ <;> unfold payloadOf <;> infer_instance

theorem kind_bar : kind (.reg barS) = some none := kind_csem none
theorem kind_x (b d : Bool) (h : Ch) : kind (.dma (xsem b d h)) = some (some (b, d, h)) := kind_csem (some (b, d, h))

theorem duties_bar (c : Dev nD) : (ringRd (F := F) CX).duties (barCell c) 0 = Finset.univ := by
  dsimp only [ringRd]
  rw [if_pos ⟨rfl, rfl⟩, kind_bar]; rfl
theorem duties_x (b : Bool) (c : Dev nD) (d : Bool) (h : Ch) : (ringRd (F := F) CX).duties (xCell b c d h) 0 = {false} := by
  dsimp only [ringRd]
  rw [if_pos ⟨rfl, rfl⟩, kind_x]; rfl
theorem duties_later (g : GSem nD τ sig) : ∀ r, 1 ≤ r → (ringRd (F := F) CX).duties g r = ∅ :=
  fun r hr => if_neg fun h => by omega

theorem amount_bar (c : Dev nD) (d : Bool) : (ringRd (F := F) CX).amount (barCell c) 0 d = 1 := by
  show amountOf (kind (.reg barS)) = 1; rw [kind_bar]; rfl
theorem amount_x (b : Bool) (c : Dev nD) (d e : Bool) (h : Ch) : (ringRd (F := F) CX).amount (xCell b c d h) 0 e = amt h := by
  show amountOf (kind (.dma (xsem b d h))) = _; rw [kind_x]; rfl

theorem expect_bar (c : Dev nD) : (ringRd (F := F) CX).expect (barCell c) 0 = 2 := by
  unfold Schedule.expect Schedule.amountOf
  rw [duties_bar, Finset.sum_congr rfl fun d _ => amount_bar CX c d, Finset.sum_const, Finset.card_univ, Fintype.card_bool, smul_eq_mul]
theorem expect_x (b : Bool) (c : Dev nD) (d : Bool) (h : Ch) : (ringRd (F := F) CX).expect (xCell b c d h) 0 = amt h := by
  unfold Schedule.expect Schedule.amountOf; rw [duties_x, Finset.sum_singleton, amount_x]

theorem payload_bar (c : Dev nD) (d : Bool) : (ringRd (F := F) CX).payload (barCell c) 0 d = barPay c d := by
  show payloadOf CX c d (kind (.reg barS)) = _; rw [kind_bar]; rfl
theorem payload_recv (c : Dev nD) (d e : Bool) (h : Ch) : (ringRd (F := F) CX).payload (recvCell c d h) 0 e = recvPay CX c d h := by
  show payloadOf CX c e (kind (.dma (xsem true d h))) = _; rw [kind_x]; rfl
theorem payload_send (c : Dev nD) (d e : Bool) (h : Ch) : (ringRd (F := F) CX).payload (sendCell c d h) 0 e = sendPay CX c d h := by
  show payloadOf CX c e (kind (.dma (xsem false d h))) = _; rw [kind_x]; rfl

theorem rest_bar (c : Dev nD) : bigSep ((ringRd (F := F) CX).duties (barCell c) 0 \ ∅) (fun d => (ringRd (F := F) CX).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (c : Dev nD) (d : Bool) (h : Ch) :
    bigSep ((ringRd (F := F) CX).duties (sendCell c d h) 0 \ ∅) (fun e => (ringRd (F := F) CX).payload (sendCell c d h) 0 e) = sendPay CX c d h := by
  rw [Finset.sdiff_empty, duties_x, bigSep_singleton, payload_send]
theorem rest_recv (c : Dev nD) (d : Bool) (h : Ch) :
    bigSep ((ringRd (F := F) CX).duties (recvCell c d h) 0 \ ∅) (fun e => (ringRd (F := F) CX).payload (recvCell c d h) 0 e) = recvPay CX c d h := by
  rw [Finset.sdiff_empty, duties_x, bigSep_singleton, payload_recv]

end Sched

/-! ## The order of the transfers, and what a device still owes -/

/-- A transfer of either stream. -/
abbrev Tr : Type := Bool × Ch

/-- The order transfers are sent in, and received in; and the order the sender waits for them at the end. -/
def rank (x : Tr) : ℕ := 2 * num x.2 + x.1.toNat
def wrank : Tr → ℕ
  | (d, .inl j) => 2 * j.val + d.toNat
  | (d, .inr j) => 6 + 6 * d.toNat + j.val

theorem rank_injective : Function.Injective rank := by decide
theorem wrank_injective : Function.Injective wrank := by decide
theorem rank_lt (x : Tr) : rank x < 18 := by revert x; decide
theorem wrank_lt (x : Tr) : wrank x < 18 := by revert x; decide

/-- The transfers from place `s` on, and those before it, in an order `ρ`. -/
def from_ (ρ : Tr → ℕ) (s : ℕ) : Finset Tr := Finset.univ.filter fun x => s ≤ ρ x
def upto (ρ : Tr → ℕ) (s : ℕ) : Finset Tr := Finset.univ.filter fun x => ρ x < s

theorem from_eq {ρ : Tr → ℕ} (hρ : Function.Injective ρ) {s : ℕ} {x : Tr} (h : ρ x = s) : from_ ρ s = insert x (from_ ρ (s + 1)) := by
  subst h; ext y
  simp only [from_, Finset.mem_filter, Finset.mem_univ, true_and, Finset.mem_insert]
  constructor
  · intro hy
    rcases Nat.lt_or_ge (ρ x) (ρ y) with h | h
    · exact Or.inr h
    · exact Or.inl (hρ (Nat.le_antisymm h hy))
  · rintro (rfl | hy)
    · exact Nat.le_refl _
    · omega
theorem not_mem_from {ρ : Tr → ℕ} {s : ℕ} {x : Tr} (h : ρ x = s) : x ∉ from_ ρ (s + 1) := by
  simp only [from_, Finset.mem_filter, Finset.mem_univ, true_and]; omega
theorem upto_eq {ρ : Tr → ℕ} (hρ : Function.Injective ρ) {s : ℕ} {x : Tr} (h : ρ x = s) : upto ρ (s + 1) = insert x (upto ρ s) := by
  subst h; ext y
  simp only [upto, Finset.mem_filter, Finset.mem_univ, true_and, Finset.mem_insert]
  constructor
  · intro hy
    rcases Nat.lt_or_ge (ρ y) (ρ x) with h | h
    · exact Or.inr h
    · exact Or.inl (hρ (by omega))
  · rintro (rfl | hy)
    · omega
    · omega
theorem not_mem_upto {ρ : Tr → ℕ} {s : ℕ} {x : Tr} (h : ρ x = s) : x ∉ upto ρ s := by
  simp only [upto, Finset.mem_filter, Finset.mem_univ, true_and]; omega
theorem from_zero (ρ : Tr → ℕ) : from_ ρ 0 = Finset.univ := by simp [from_]
theorem upto_zero (ρ : Tr → ℕ) : upto ρ 0 = ∅ := by simp [upto]
theorem from_end {ρ : Tr → ℕ} (h : ∀ x, ρ x < 18) : from_ ρ 18 = ∅ := by
  ext x; simp only [from_, Finset.mem_filter, Finset.mem_univ, true_and]; have := h x; simp; omega
theorem upto_end {ρ : Tr → ℕ} (h : ∀ x, ρ x < 18) : upto ρ 18 = Finset.univ := by
  ext x; simp only [upto, Finset.mem_filter, Finset.mem_univ, true_and]; have := h x; simp; omega

theorem take_from {ρ : Tr → ℕ} (hρ : Function.Injective ρ) {s : ℕ} {x : Tr} (h : ρ x = s) (Φ : Tr → sProp 𝕄) :
    bigSep (from_ ρ s) Φ = iprop(Φ x ∗ bigSep (from_ ρ (s + 1)) Φ) := by
  rw [from_eq hρ h, bigSep_insert (not_mem_from h)]; rfl
theorem put_upto {ρ : Tr → ℕ} (hρ : Function.Injective ρ) {s : ℕ} {x : Tr} (h : ρ x = s) (Φ : Tr → sProp 𝕄) :
    bigSep (upto ρ (s + 1)) Φ = iprop(Φ x ∗ bigSep (upto ρ s) Φ) := by
  rw [upto_eq hρ h, bigSep_insert (not_mem_upto h)]; rfl

/-- What device `c` owes once it has sent the transfers before place `s`. -/
def debt (c : Dev nD) (s : ℕ) : CellTallies nD τ sig Unit :=
  ∑ x ∈ from_ rank s, tallyAt (recvCell (tgt x.1 c) x.1 x.2) () (amt x.2)

theorem debt_step (c : Dev nD) {s : ℕ} {x : Tr} (h : rank x = s) :
    debt c s = debt c (s + 1) + tallyAt (recvCell (tgt x.1 c) x.1 x.2) () (amt x.2) := by
  unfold debt; rw [from_eq rank_injective h, Finset.sum_insert (not_mem_from h), add_comm]
theorem debt_end (c : Dev nD) : debt c 18 = 0 := by unfold debt; rw [from_end rank_lt]; rfl

theorem debt_pos {c : Dev nD} {s : ℕ} {g : GSem nD τ sig} {u : Unit} (h : 0 < debt c s g u) :
    ∃ x : Tr, s ≤ rank x ∧ g = recvCell (tgt x.1 c) x.1 x.2 := by
  by_contra hn
  have h0 : debt c s g u = 0 := by
    unfold debt
    rw [Finset.sum_apply, Finsupp.finset_sum_apply]
    refine Finset.sum_eq_zero fun x hx => ?_
    rw [tallyAt_apply, if_neg]
    rintro ⟨hg, -⟩
    exact hn ⟨x, (Finset.mem_filter.mp hx).2, hg⟩
  omega

/-- At launch a device owes both neighbours' barriers a unit too; the signal to the left pays first. -/
def O₁ (c : Dev nD) : CellTallies nD τ sig Unit := debt c 0 + tallyAt (barCell (right c)) () 1
def O₀ (c : Dev nD) : CellTallies nD τ sig Unit := O₁ c + tallyAt (barCell (left c)) () 1

/-! ## Levels -/

def L (g : GSem nD τ sig) : Finset Unit := if g.1.2 = .tc then {()} else ∅
def lvOf : Option CellKind → ℕ
  | some none => 1 | some (some (true, _, h)) => 2 + num h | _ => 0
/-- Staging and sender's cells at 0, barriers at 1, a receiver's cell above by its place. -/
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by show lvOf (kind (.reg barS)) = 1; rw [kind_bar]; rfl
theorem lv_recv (c : Dev nD) (d : Bool) (h : Ch) : lv (recvCell c d h) () = 2 + num h := by
  show lvOf (kind (.dma (xsem true d h))) = _; rw [kind_x]; rfl

theorem O₀_pos {c : Dev nD} {g : GSem nD τ sig} {u : Unit} (h : 0 < O₀ c g u) :
    (∃ x : Tr, g = recvCell (tgt x.1 c) x.1 x.2) ∨ g = barCell (right c) ∨ g = barCell (left c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨x, -, hx⟩ := debt_pos (c := c) (s := 0) (g := g) (u := u) (by omega)
  exact hn.1 ⟨x, hx⟩

theorem mayWait_stage (c : Dev nD) (q : DmaSem sig) (hq : lvOf (kind (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, rfl⟩ | rfl | rfl <;> exact Finset.mem_singleton_self _)
      (fun p hp => by rw [Finset.mem_singleton.mp hp]; exact Nat.le_of_eq hq)
      (fun g u hg => by
        rcases O₀_pos hg with ⟨x, rfl⟩ | rfl | rfl
        · rw [lv_recv]; omega
        · rw [lv_bar]; decide
        · rw [lv_bar]; decide)
  · rw [MayWait_zero]; iintro -; iempintro

theorem mayWait_debt (c : Dev nD) (sm : SemLoc sig) (s n : ℕ) (hlv : lvOf (kind sm) ≤ n) (h : ∀ x : Tr, s ≤ rank x → n < 2 + num x.2) :
    (levAts L lv : sProp 𝕄) ⊢ MayWait (c : Thread nD τ) sm () (debt c s) :=
  MayOwe.of_cut (L := L) (lev := lv) n (fun p hp => by rw [Finset.mem_singleton.mp hp, L_tc]; exact Finset.mem_singleton_self _)
    (fun g u hg => by obtain ⟨x, -, rfl⟩ := debt_pos hg; exact Finset.mem_singleton_self _)
    (fun p hp => by rw [Finset.mem_singleton.mp hp]; exact hlv)
    (fun g u hg => by obtain ⟨x, hx, rfl⟩ := debt_pos hg; rw [lv_recv]; exact h x hx)

theorem mayWait_bar (c : Dev nD) : (levAts L lv : sProp 𝕄) ⊢ MayWait (c : Thread nD τ) (.reg barS) () (debt c 0) :=
  mayWait_debt c _ 0 1 (by rw [kind_bar]; decide) fun x _ => by omega
/-- A device may wait for transfer `h` once what it owes lies above: all up to that place have been sent in both streams. -/
theorem mayWait_recv (c : Dev nD) (d : Bool) (h : Ch) (s : ℕ) (hs : 2 * num h + 2 ≤ s) :
    (levAts L lv : sProp 𝕄) ⊢ MayWait (c : Thread nD τ) (.dma (xsem true d h)) () (debt c s) :=
  mayWait_debt c _ s (2 + num h) (by rw [kind_x]; exact Nat.le_refl _) fun x hx => by
    have hb : x.1.toNat ≤ 1 := by cases x.1 <;> decide
    unfold rank at hx; omega

/-! ## The state of a device's conversation -/

section State

variable (CX : Dev nD → Bool → (h : Ch) → Vec F (sh h) .bf16) (K : Dev nD × CellKind → ℕ)

/-- The invariants of all cells, under the names they were allocated at, and that each reached its one round. -/
def records : sProp 𝕄 :=
  iprop((bigSep Finset.univ fun ck : Dev nD × CellKind => cellInv ER (ringRd CX) (K ck) (kcell ck))
    ∗ (bigSep Finset.univ fun ck : Dev nD × CellKind => reached ER (kcell ck) 0) ∗ levAts L lv)

instance records_persistent : BI.Persistent (records (F := F) CX K) := by unfold records; infer_instance

theorem inv_at' (ck : Dev nD × CellKind) :
    (bigSep Finset.univ fun ck : Dev nD × CellKind => (cellInv ER (ringRd (F := F) CX) (K ck) (kcell ck) : sProp 𝕄)) ⊢ cellInv ER (ringRd CX) (K ck) (kcell ck) :=
  bigSep_elim (Finset.mem_univ ck)
theorem reached_at' (ck : Dev nD × CellKind) :
    (bigSep Finset.univ fun ck : Dev nD × CellKind => (reached ER (kcell ck) 0 : sProp 𝕄)) ⊢ reached ER (kcell ck) 0 :=
  bigSep_elim (Finset.mem_univ ck)
theorem inv_at (ck : Dev nD × CellKind) : records (F := F) CX K ⊢ cellInv ER (ringRd CX) (K ck) (kcell ck) := by
  unfold records
  iintro ⟨H, -, -⟩
  iapply (inv_at' CX K ck); iexact H
theorem reached_at (ck : Dev nD × CellKind) : records (F := F) CX K ⊢ reached ER (kcell ck) 0 := by
  unfold records
  iintro ⟨-, H, -⟩
  iapply (reached_at' ck); iexact H
theorem levs_at : records (F := F) CX K ⊢ (levAts L lv : sProp 𝕄) := by
  unfold records
  iintro ⟨-, -, H⟩
  iexact H

/-- What a device needs to send transfer `x`: the duties it pays, and the landing slot. -/
def sendToks (c : Dev nD) (x : Tr) : sProp 𝕄 :=
  iprop(dutyTok ER (sendCell c x.1 x.2) 0 false ∗ dutyTok ER (recvCell (tgt x.1 c) x.1 x.2) 0 false)
def sendKit (c : Dev nD) (x : Tr) : sProp 𝕄 := iprop(sendToks c x ∗ landE (tgt x.1 c) x.1 x.2)
/-- What it needs to wait for transfer `x` of its neighbour. -/
def recvKit (c : Dev nD) (x : Tr) : sProp 𝕄 :=
  iprop(atPos ER (recvCell c x.1 x.2) 0 ∅ 0 ∗ cred (tallyAt (recvCell c x.1 x.2) () (amt x.2)))
/-- What it needs to wait for its own transfer `x` to have left. -/
def sendPos (c : Dev nD) (x : Tr) : sProp 𝕄 := atPos ER (sendCell c x.1 x.2) 0 ∅ 0
def sendCred (c : Dev nD) (x : Tr) : sProp 𝕄 := cred (tallyAt (sendCell c x.1 x.2) () (amt x.2))
/-- A finished cell. -/
def recvDone (c : Dev nD) (x : Tr) : sProp 𝕄 := semVal (recvCell c x.1 x.2) 0
def sendDone (c : Dev nD) (x : Tr) : sProp 𝕄 := iprop(semVal (sendCell c x.1 x.2) 0 ∗ sendPay CX c x.1 x.2)

/-- The conversation of device `c` when the transfers before place `s` have been sent and those before `r` received. -/
def Talk (c : Dev nD) (s r : ℕ) : sProp 𝕄 :=
  iprop(records CX K ∗ (∃ W, owes (c : Thread nD τ) (debt c s) W) ∗ bigSep (from_ rank s) (sendKit c)
    ∗ bigSep (from_ rank r) (recvKit c) ∗ bigSep (upto rank r) (recvDone c)
    ∗ bigSep Finset.univ (sendPos c) ∗ bigSep (upto rank s) (sendCred c) ∗ semVal (barCell c) 0)

/-- At the end: all sent and received, those before place `t` of the sender's waits waited for. -/
def Bye (c : Dev nD) (t : ℕ) : sProp 𝕄 :=
  iprop(records CX K ∗ (∃ W, owes (c : Thread nD τ) 0 W) ∗ bigSep Finset.univ (recvDone c)
    ∗ bigSep (from_ wrank t) (fun x => iprop(sendPos c x ∗ sendCred c x)) ∗ bigSep (upto wrank t) (sendDone CX c) ∗ semVal (barCell c) 0)

theorem talk_bye (c : Dev nD) : Talk CX K c 18 18 ⊢ Bye CX K c 0 := by
  unfold Talk Bye
  rw [debt_end, from_end rank_lt, upto_end rank_lt, from_zero, upto_zero, bigSep_sep', bigSep_empty]
  iintro ⟨H1, H2, -, -, H5, H6, H7, H8⟩
  isplitl [H1]; · iexact H1
  isplitl [H2]; · iexact H2
  isplitl [H5]; · iexact H5
  isplitl [H6 H7]
  · isplitl [H6] <;> iassumption
  isplitr; · iempintro
  iexact H8

/-- Sending transfer `x`: its source goes in. -/
theorem talk_send (c n : Dev nD) (d : Bool) (h : Ch) (s r : ℕ) (hs : rank (d, h) = s) (hn : n = tgt d c)
    {hsc : (landM d h : Memref sig (Dev.tc n : Thread nD τ).2.kind .vmem (sh h) .bf16).view.ref.isScScratch = false}
    {hsrc : (srcM d h).view.WordExact} {hdst : (landM d h).view.WordExact}
    {hsem : DmaTarget.Typed .vmem (.dma (xsem true d h)) (.remote (Dev.tc n : Thread nD τ) (landM d h) (.dma (xsem false d h)) hsc)}
    {α : Type} {Q : α → sProp 𝕄} {k : PUnit → Prog (TpuEff nD τ sig (Elt F) Λ₀ .tc) α} :
    iprop(Talk CX K c s r ∗ sendPay CX c d h)
      ⊢ iprop((Talk CX K c (s + 1) r -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM d h) (.remote (Dev.tc n : Thread nD τ) (landM d h) (.dma (xsem false d h)) hsc) (.dma (xsem true d h)) hsrc hdst hsem) k) Q) := by
  subst hn
  unfold Talk
  rw [take_from rank_injective hs, put_upto rank_injective hs]
  unfold sendKit sendToks landE
  iintro ⟨⟨#HR, ⟨%W, HO⟩, ⟨⟨⟨HtS, HtR⟩, ⟨%X, Hland⟩⟩, Hrest⟩, H4, H5, H6, H7, H8⟩, Hsrc⟩ Hk
  unfold sendPay owns
  icases Hsrc with ⟨%fs, %hfs, Hsrc⟩
  icases Hland with ⟨%fd, %hfd, Hland⟩
  iapply (Rounds.wp_send_pointsTo 𝒱₀ ER (ringRd CX) (c : Thread nD τ) none (κ₁ := K (c, some (false, d, h))) (κ₂ := K (tgt d c, some (true, d, h)))
    (r₁ := 0) (r₂ := 0) (d₁ := false) (d₂ := false) (q := shr h) (fs := fs) (fd := fd)
    (by rw [duties_x]; exact Finset.mem_singleton_self _) (by rw [duties_x]; exact Finset.mem_singleton_self _)
    () () (amt h) (land_amount d h) (amount_x CX false c d false h) (amount_x CX true (tgt d c) d false h) (debt c (s + 1)) (debt_step c hs) (W := W)
    (by rw [payload_send]; unfold sendPay; rw [← hfs]; exact owns_intro _ _ _ _)
    (by rw [payload_recv]; unfold recvPay; rw [src_tgt, ← hfs]
        have e := owns_intro (tgt d c : Thread nD τ) (landM d h) fullShare
          ((landM d h).view.write (Elt F) fd ((srcM d h).view.read (Elt F) fs) Finset.univ) (Ix := Unit) (Name := ℕ) (U := UU) (Lvl := ℕ)
        rw [View.read_write_univ] at e
        exact e)) $$ [Hsrc Hland HO HtS HtR]
  · isplitr; · iapply (inv_at CX K (c, some (false, d, h))); iexact HR
    isplitr; · iapply (inv_at CX K (tgt d c, some (true, d, h))); iexact HR
    isplitl [Hsrc]; · iexact Hsrc
    isplitl [Hland]; · iexact Hland
    isplitl [HO]; · iexact HO
    isplitl [HtS]; · iexact HtS
    isplitr; · iapply (reached_at CX K (c, some (false, d, h))); iexact HR
    isplitl [HtR]; · iexact HtR
    iapply (reached_at CX K (tgt d c, some (true, d, h))); iexact HR
  iintro ⟨Hc, HO⟩
  iapply Hk
  isplitr; · iexact HR
  isplitl [HO]; · iexists W; iexact HO
  isplitl [Hrest]; · iexact Hrest
  isplitl [H4]; · iexact H4
  isplitl [H5]; · iexact H5
  isplitl [H6]; · iexact H6
  isplitl [Hc H7]
  · isplitl [Hc]; · unfold sendCred; iexact Hc
    iexact H7
  iexact H8

/-- Waiting for transfer `x` of the neighbour: what it sent is here. -/
theorem talk_recv (c : Dev nD) (d : Bool) (h : Ch) (s r : ℕ) (hr : rank (d, h) = r) (hs : 2 * num h + 2 ≤ s)
    {m₁ m₂ : Memref sig .tc .vmem (sh h) .bf16} {h₁ h₂} (hm : m₂.view.dmaCredit = amt h)
    {α : Type} {Q : α → sProp 𝕄} {k : PUnit → Prog (TpuEff nD τ sig (Elt F) Λ₀ .tc) α} :
    Talk CX K c s r
      ⊢ iprop(((Talk CX K c s (r + 1) ∗ recvPay CX c d h) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (xsem true d h) m₁ m₂ h₁ h₂) k) Q) := by
  unfold Talk
  rw [take_from rank_injective hr, put_upto rank_injective hr]
  iintro ⟨#HR, ⟨%W, HO⟩, H3, ⟨Hkit, H4⟩, H5, H6, H7, H8⟩ Hk
  unfold recvKit
  icases Hkit with ⟨Hat, Hc⟩
  iapply (Rounds.wp_wait_rest_token 𝒱₀ ER (ringRd CX) (c : Thread nD τ) none (κ := K (c, some (true, d, h)))
      (wpE_waitDma2_eq 𝒱₀ (c : Thread nD τ) none Set.univ) (Set.mem_univ _) () (O := debt c s) (W := W) (R := 0) (m := 0) (T := ∅)
      (by rw [Nat.zero_add, expect_x]; exact hm)) $$ [Hc HO Hat]
  · isplitr; · iapply (inv_at CX K (c, some (true, d, h))); iexact HR
    isplitl [Hc]; · rw [hm]; iexact Hc
    isplitl [HO]; · iexact HO
    isplitr
    · iapply (mayWait_recv c d h s hs); iapply (levs_at CX K); iexact HR
    iexact Hat
  iintro ⟨HO, Hat, -, Hpay⟩
  ihave Hp := (Entails.of_eq (rest_recv CX c d h)) $$ Hpay
  imod (Rounds.cell_close ER (ringRd CX) (Set.mem_univ (K (c, some (true, d, h)))) (fun h => h) (R := 0 + 1) (duties_later CX (recvCell c d h))) $$ [Hat] with Hz
  · isplitr; · iapply (inv_at CX K (c, some (true, d, h))); iexact HR
    iexact Hat
  iapply Hk
  isplitr [Hp]
  · isplitr; · iexact HR
    isplitl [HO]; · iexists _; iexact HO
    isplitl [H3]; · iexact H3
    isplitl [H4]; · iexact H4
    isplitl [Hz H5]
    · isplitl [Hz]; · unfold recvDone; iexact Hz
      iexact H5
    isplitl [H6]; · iexact H6
    isplitl [H7]; · iexact H7
    iexact H8
  · iexact Hp

/-- Waiting for its own transfer `x` to have left. -/
theorem bye_wait (c : Dev nD) (d : Bool) (h : Ch) (t : ℕ) (ht : wrank (d, h) = t)
    {m₁ m₂ : Memref sig .tc .vmem (sh h) .bf16} {h₁ h₂} (hm : m₂.view.dmaCredit = amt h)
    {α : Type} {Q : α → sProp 𝕄} {k : PUnit → Prog (TpuEff nD τ sig (Elt F) Λ₀ .tc) α} :
    Bye CX K c t
      ⊢ iprop((Bye CX K c (t + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (xsem false d h) m₁ m₂ h₁ h₂) k) Q) := by
  unfold Bye
  rw [take_from wrank_injective ht, put_upto wrank_injective ht]
  iintro ⟨#HR, ⟨%W, HO⟩, H3, ⟨⟨Hat, Hc⟩, H4⟩, H5, H6⟩ Hk
  unfold sendPos sendCred
  iapply (Rounds.wp_wait_rest_token 𝒱₀ ER (ringRd CX) (c : Thread nD τ) none (κ := K (c, some (false, d, h)))
      (wpE_waitDma2_eq 𝒱₀ (c : Thread nD τ) none Set.univ) (Set.mem_univ _) () (O := 0) (W := W) (R := 0) (m := 0) (T := ∅)
      (by rw [Nat.zero_add, expect_x]; exact hm)) $$ [Hc HO Hat]
  · isplitr; · iapply (inv_at CX K (c, some (false, d, h))); iexact HR
    isplitl [Hc]; · rw [hm]; iexact Hc
    isplitl [HO]; · iexact HO
    isplitr; · rw [MayWait_zero]; iempintro
    iexact Hat
  iintro ⟨HO, Hat, -, Hpay⟩
  ihave Hp := (Entails.of_eq (rest_send CX c d h)) $$ Hpay
  imod (Rounds.cell_close ER (ringRd CX) (Set.mem_univ (K (c, some (false, d, h)))) (fun h => h) (R := 0 + 1) (duties_later CX (sendCell c d h))) $$ [Hat] with Hz
  · isplitr; · iapply (inv_at CX K (c, some (false, d, h))); iexact HR
    iexact Hat
  iapply Hk
  isplitr; · iexact HR
  isplitl [HO]; · iexists _; iexact HO
  isplitl [H3]; · iexact H3
  isplitl [H4]; · iexact H4
  isplitl [Hz Hp H5]
  · isplitl [Hz Hp]
    · unfold sendDone; isplitl [Hz] <;> iassumption
    iexact H5
  iexact H6

/-! ## The barrier -/

/-- What a device starts its conversation from. -/
def Hello (c : Dev nD) : sProp 𝕄 :=
  iprop(records CX K ∗ (∃ W, owes (c : Thread nD τ) (O₀ c) W)
    ∗ (dutyTok ER (barCell (left c)) 0 false ∗ dutyTok ER (barCell (right c)) 0 true)
    ∗ (atPos ER (barCell c) 0 ∅ 0 ∗ cred (tallyAt (barCell c) () 2))
    ∗ bigSep Finset.univ (sendToks c) ∗ bigSep Finset.univ (recvKit c) ∗ bigSep Finset.univ (sendPos c)
    ∗ (bigSep Finset.univ fun h : Ch => landE c false h) ∗ (bigSep Finset.univ fun h : Ch => landE c true h))

/-- The two signals and the wait: the landing slots of the neighbours are its own to write. -/
theorem hello_talk (c n₁ n₂ : Dev nD) (hn₁ : n₁ = left c) (hn₂ : n₂ = right c)
    {α : Type} {Q : α → sProp 𝕄} {k : PUnit → Prog (TpuEff nD τ sig (Elt F) Λ₀ .tc) α} :
    Hello CX K c
      ⊢ iprop((Talk CX K c 0 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n₁ : Thread nD τ) barS 1) fun _ => .op (.semSignal (Dev.tc n₂ : Thread nD τ) barS 1) fun _ =>
                .op (.semWait barS 2) k) Q) := by
  subst hn₁; subst hn₂
  unfold Hello
  iintro ⟨#HR, ⟨%W, HO⟩, ⟨HtL, HtR⟩, ⟨Hat, Hc⟩, Hst, Hrk, Hsp, Hl0, Hl1⟩ Hk
  iapply (Rounds.wp_signal 𝒱₀ ER (ringRd CX) (c : Thread nD τ) none (dst := (left c : Thread nD τ)) (κ := K (left c, none))
      (d := false) (by rw [duties_bar]; exact Finset.mem_univ _) (amount_bar CX (left c) false) () (O₁ c) rfl)
    $$ [HO HtL Hl0]
  · isplitr; · iapply (inv_at CX K (left c, none)); iexact HR
    isplitl [HO]; · iexact HO
    isplitl [HtL]; · iexact HtL
    isplitl [Hl0]
    · rw [payload_bar]; unfold barPay; rw [show tgt false (left c) = c from right_left c]; iexact Hl0
    iapply (reached_at CX K (left c, none)); iexact HR
  iintro HO
  iapply (Rounds.wp_signal 𝒱₀ ER (ringRd CX) (c : Thread nD τ) none (dst := (right c : Thread nD τ)) (κ := K (right c, none))
      (d := true) (by rw [duties_bar]; exact Finset.mem_univ _) (amount_bar CX (right c) true) () (debt c 0) rfl)
    $$ [HO HtR Hl1]
  · isplitr; · iapply (inv_at CX K (right c, none)); iexact HR
    isplitl [HO]; · iexact HO
    isplitl [HtR]; · iexact HtR
    isplitl [Hl1]
    · rw [payload_bar]; unfold barPay; rw [show tgt true (right c) = c from left_right c]; iexact Hl1
    iapply (reached_at CX K (right c, none)); iexact HR
  iintro HO
  iapply (Rounds.wp_wait_rest_token 𝒱₀ ER (ringRd CX) (c : Thread nD τ) none (κ := K (c, none))
      (wpE_semWait_eq 𝒱₀ (c : Thread nD τ) none Set.univ) (Set.mem_univ _) () (O := debt c 0) (W := W) (R := 0) (m := 0) (T := ∅)
      (by rw [expect_bar])) $$ [Hc HO Hat]
  · isplitr; · iapply (inv_at CX K (c, none)); iexact HR
    isplitl [Hc]; · iexact Hc
    isplitl [HO]; · iexact HO
    isplitr; · iapply (mayWait_bar c); iapply (levs_at CX K); iexact HR
    iexact Hat
  iintro ⟨HO, Hat, -, Hpay⟩
  ihave Hp := (Entails.of_eq (rest_bar CX c)) $$ Hpay
  imod (Rounds.cell_close ER (ringRd CX) (Set.mem_univ (K (c, none))) (fun h => h) (R := 0 + 1) (duties_later CX (barCell c))) $$ [Hat] with Hz
  · isplitr; · iapply (inv_at CX K (c, none)); iexact HR
    iexact Hat
  iapply Hk
  unfold Talk
  rw [from_zero, upto_zero, bigSep_empty, bigSep_empty]
  isplitr; · iexact HR
  isplitl [HO]; · iexists _; iexact HO
  isplitl [Hst Hp]
  · unfold sendKit barPay
    rw [bigSep_sep', bigSep_univ_prod (fun x : Tr => landE (F := F) (tgt x.1 c) x.1 x.2),
      bigSep_univ_eq_bigSepL [false, true] (by decide) (by decide), bigSepL_cons_cons, bigSepL_singleton]
    isplitl [Hst] <;> iassumption
  isplitl [Hrk]; · iexact Hrk
  isplitr; · iempintro
  isplitl [Hsp]; · iexact Hsp
  isplitr; · iempintro
  iexact Hz

end State

end Cert.KernelIdeal.Talk

end
-- ==== Proof.Vals.lean ====
/-
  What the kernel computes, as functions of the devices' blocks.

  A device has all of `x` and its own eight heads' columns of the three projections and rows of the output projection.
  It fills two tables of angles, its rotated keys and its values; then for a chunk of 512 rows it computes the part of
  the result that its heads contribute (`part`). The parts of a chunk are summed around the ring, the upper half of the
  chunk clockwise and the lower half counter-clockwise, in bfloat16 on the way (`sumV`); the owner of a chunk adds its own
  part last (`fin`), and the finished rows travel around the ring, again in bfloat16.
-/
module

public import proofs.«01_k».proof.Proof.Talk

@[expose] public section

noncomputable section

namespace Cert.KernelIdeal.Vals

open Cert.KernelIdeal Cert.KernelIdeal.Gen Cert.KernelIdeal.Talk
open Idealize.ShloMosaic
open Idealize.ShloMosaic.TcCoe

variable {F : FTy → Type} [FloatOps F] [Named F]

/-- A box of an array. -/
abbrev box {s : Shape} {α : Type} (X : s.Idx → α) (o size : Fin s.rank → ℕ) (inb : ∀ a, o a + size a ≤ s.size a) :
    (Rect.unit (s := s) o size inb).toLoadRect.shape.Idx → α := fun j => X ((Rect.unit (s := s) o size inb).toLoadRect.idx j)

/-- An index of a matrix. -/
def at2 {n m : ℕ} (a : Fin n) (b : Fin m) : (⟨2, ![n, m]⟩ : Shape).Idx := Shape.pair a b

/-- The arrays of one device. -/
structure In (F : FTy → Type) [FloatOps F] where
  x : Vec F S2048x1024 .f32
  wq : Vec F S1024x1024 .f32
  wk : Vec F S1024x1024 .f32
  wv : Vec F S1024x1024 .f32
  wo : Vec F S1024x1024 .f32

/-! ## The tables -/

/-- The matrix that swaps the two entries of every pair, the first negated. -/
def rotM : FVec F S256x256 .f32 :=
  k0_pay2 (iota .tc S256x256 32 [0] iota_S256x256_d0_w32) (iota .tc S256x256 32 [1] iota_S256x256_d1_w32) k0_pay1 1#32
def cosT : FVec F S2048x128 .f32 :=
  k0_pay7 (iota .tc S2048x128 32 [1] iota_S2048x128_d1_w32) k0_pay3 2#32 k0_pay4 k0_pay5
def sinT : FVec F S2048x128 .f32 :=
  k0_pay8 (iota .tc S2048x128 32 [1] iota_S2048x128_d1_w32) k0_pay3 2#32 k0_pay4 k0_pay5

theorem inb_cols (j : Fin 4) : ∀ a, (![0, 256 * j.val] : Fin 2 → ℕ) a + S1024x256.size a ≤ S1024x1024.size a := by revert j; decide
theorem inb_prows (j : Fin 4) : ∀ a, (![256 * j.val, 0] : Fin 2 → ℕ) a + S256x1024.size a ≤ S1024x1024.size a := by revert j; decide
theorem inb_head (h : Fin 8) : ∀ a, (![0, 128 * h.val] : Fin 2 → ℕ) a + S2048x128.size a ≤ S2048x1024.size a := by revert h; decide
theorem inb_rows (e : Dev nD) : ∀ a, (![512 * e.val, 0] : Fin 2 → ℕ) a + S512x1024.size a ≤ S2048x1024.size a := by revert e; decide
theorem inb_trows (e : Dev nD) : ∀ a, (![512 * e.val, 0] : Fin 2 → ℕ) a + S512x128.size a ≤ S2048x128.size a := by revert e; decide

/-- Columns, or rows, `256 j …` of a device's weights: those of two heads. -/
abbrev cols (W : Vec F S1024x1024 .f32) (j : Fin 4) : Vec F S1024x256 .f32 := box W ![0, 256 * j.val] S1024x256.size (inb_cols j)
abbrev prows (W : Vec F S1024x1024 .f32) (j : Fin 4) : Vec F S256x1024 .f32 := box W ![256 * j.val, 0] S256x1024.size (inb_prows j)

/-- The rotated keys, and the values, of two heads. -/
def keyCols (I : In F) (j : Fin 4) : FVec F S2048x256 .bf16 := k0_pay15 rotM cosT sinT I.x (cols I.wk j)
def valCols (I : In F) (j : Fin 4) : FVec F S2048x256 .bf16 := k0_pay14 I.x (cols I.wv j)

theorem inb_kv (j : Fin 4) : ∀ a, (![0, 256 * j.val] : Fin 2 → ℕ) a + S2048x256.size a ≤ S2048x1024.size a := by revert j; decide

/-- Four column blocks beside each other. -/
def beside (P : Fin 4 → FVec F S2048x256 .bf16) : Vec F S2048x1024 .bf16 := fun i =>
  P ⟨(i (1 : Fin 2)).val / 256, by have := (i (1 : Fin 2)).isLt; change _ < 1024 at this; omega⟩
    (at2 (n := 2048) (m := 256) (i (0 : Fin 2)) ⟨(i (1 : Fin 2)).val % 256, Nat.mod_lt _ (by decide)⟩)

def keyT (I : In F) : Vec F S2048x1024 .bf16 := beside (keyCols I)
def valT (I : In F) : Vec F S2048x1024 .bf16 := beside (valCols I)

abbrev head (T : Vec F S2048x1024 .bf16) (h : Fin 8) : Vec F S2048x128 .bf16 := box T ![0, 128 * h.val] S2048x128.size (inb_head h)

/-! ## A chunk -/

abbrev rowsX (I : In F) (e : Dev nD) : Vec F S512x1024 .f32 := box I.x ![512 * e.val, 0] S512x1024.size (inb_rows e)
abbrev rowsT (T : FVec F S2048x128 .f32) (e : Dev nD) : Vec F S512x128 .f32 := box T ![512 * e.val, 0] S512x128.size (inb_trows e)

/-- The scaled, rotated queries of two heads, for rows `rx` of `x` and rows `rc`, `rs` of the tables. -/
def qry (I : In F) (rx : Vec F S512x1024 .f32) (rc rs : Vec F S512x128 .f32) (j : Fin 4) : FVec F S512x256 .bf16 :=
  k0_pay30 rotM (k0_pay25 rx) rc rs (cols I.wq j)

/-- One head: the exponentials of the scores, weighting the values, over their sum. -/
def attend (q : FVec F S512x128 .bf16) (kh vh : Vec F S2048x128 .bf16) : FVec F S512x128 .f32 :=
  have sc : FVec F S512x2048 .f32 := exp (matmul dot_S512x128_S2048x128_S512x2048_1_1_0_0_n_n none q kh (constant S512x2048 .f32 0x00000000#32))
  mulf (matmul dot_S512x2048_S2048x128_S512x128_1_0_0_1_n_n none (truncf .bf16 sc bitsLt_bf16_f32) vh (constant S512x128 .f32 0x00000000#32))
    (broadcastTo S512x128
      (divf (broadcast S512x1 (Scalar.ofBits .f32 0x3F800000#32))
        (shapeCast S512x1 (multiReduction .add [1] S512 sc 0x00000000#32 reduces_S512x2048_S512 (.inl rfl) rfl) shapeCasts_S512_S512x1))
      broadcasts_S512x1_S512x128)

/-- Two heads' contexts beside each other, times their rows of the output projection. -/
def pairPart (I : In F) (rx : Vec F S512x1024 .f32) (rc rs : Vec F S512x128 .f32) (hk hv : Fin 8 → Vec F S2048x128 .bf16) (j : Fin 4) : FVec F S512x1024 .f32 :=
  matmul dot_S512x256_S256x1024_S512x1024_1_0_0_1_n_n none
    (concatenate S512x256 1
      [⟨S512x128, attend (extractStridedSlice S512x128 ![0, 0] (qry I rx rc rs j) slices_S512x256_o0_0_S512x128)
          (hk ⟨2 * j.val, by omega⟩) (hv ⟨2 * j.val, by omega⟩)⟩,
       ⟨S512x128, attend (extractStridedSlice S512x128 ![0, 128] (qry I rx rc rs j) slices_S512x256_o0_128_S512x128)
          (hk ⟨2 * j.val + 1, by omega⟩) (hv ⟨2 * j.val + 1, by omega⟩)⟩]
      concatenates_S512x128_S512x128_S512x256_d1)
    (k0_pay28 (prows I.wo j)) (constant S512x1024 .f32 0x00000000#32)

/-- What a device's heads contribute to 512 rows. -/
def rowsPart (I : In F) (rx : Vec F S512x1024 .f32) (rc rs : Vec F S512x128 .f32) (hk hv : Fin 8 → Vec F S2048x128 .bf16) : FVec F S512x1024 .f32 :=
  addf (addf (addf (pairPart I rx rc rs hk hv 0) (pairPart I rx rc rs hk hv 1)) (pairPart I rx rc rs hk hv 2)) (pairPart I rx rc rs hk hv 3)

/-- What they contribute to chunk `e`. -/
def part (I : In F) (e : Dev nD) : FVec F S512x1024 .f32 :=
  rowsPart I (rowsX I e) (rowsT cosT e) (rowsT sinT e) (head (keyT I)) (head (valT I))

/-- Boxes at equal offsets. -/
theorem box_off {s : Shape} {α : Type} (X : s.Idx → α) {o o' : Fin s.rank → ℕ} (size : Fin s.rank → ℕ) (h : o = o') (i i') :
    (box X o size i : (⟨s.rank, size⟩ : Shape).Idx → α) = box X o' size i' := by subst h; rfl

/-- The part of chunk `e`, its rows addressed by other spellings of `512 e`. -/
theorem part_of (I : In F) (e : Dev nD) {o o' : Fin 2 → ℕ} (h : o = ![512 * e.val, 0]) (h' : o' = ![512 * e.val, 0]) (i i')
    (C S : FVec F S2048x128 .f32) (hC : C = cosT) (hS : S = sinT) (hk hv : Fin 8 → Vec F S2048x128 .bf16)
    (hK : ∀ n, hk n = head (keyT I) n) (hV : ∀ n, hv n = head (valT I) n) :
    rowsPart I (box I.x o S512x1024.size i) (box C o' S512x128.size i') (box S o' S512x128.size i') hk hv = part I e := by
  obtain rfl : hk = head (keyT I) := funext hK
  obtain rfl : hv = head (valT I) := funext hV
  subst h h' hC hS; rfl

/-! ## Around the ring -/

/-- The half of a chunk that goes in direction `d`. -/
def half (d : Bool) (A : FVec F S512x1024 .f32) : FVec F S256x1024 .f32 := match d with
  | false => extractStridedSlice S256x1024 ![0, 0] A slices_S512x1024_o0_0_S256x1024
  | true => extractStridedSlice S256x1024 ![256, 0] A slices_S512x1024_o256_0_S256x1024

/-- The quarters of those rows. -/
def quarter (u : Bool) (A : FVec F S256x1024 .f32) : FVec F S128x1024 .f32 := match u with
  | false => extractStridedSlice S128x1024 ![0, 0] A slices_S256x1024_o0_0_S128x1024
  | true => extractStridedSlice S128x1024 ![128, 0] A slices_S256x1024_o128_0_S128x1024

variable (I : Dev nD → In F)

/-- The device `n` steps against direction `d`. -/
def back (d : Bool) : ℕ → Dev nD → Dev nD
  | 0, c => c
  | n + 1, c => src d (back d n c)

/-- The partial sum that device `c` sends with transfer `j` in direction `d`: of the chunk `j + 1` steps back. -/
def sumV (d : Bool) : ℕ → Dev nD → FVec F S256x1024 .bf16
  | 0, c => truncf .bf16 (half d (part (I c) (src d c))) bitsLt_bf16_f32
  | j + 1, c => truncf .bf16 (addf (extf .f32 (sumV d j (src d c)) bitsLt_bf16_f32) (half d (part (I c) (back d (j + 2) c)))) bitsLt_bf16_f32

/-- A finished half chunk, at its owner. -/
def fin (d : Bool) (c : Dev nD) : FVec F S256x1024 .f32 :=
  addf (extf .f32 (sumV I d 2 (src d c)) bitsLt_bf16_f32) (half d (part (I c) c))

/-- A quarter of it on its way. -/
def finQ (d u : Bool) (c : Dev nD) : FVec F S128x1024 .bf16 := truncf .bf16 (quarter u (fin I d c)) bitsLt_bf16_f32

/-- What every transfer carries. -/
def CX (c : Dev nD) (d : Bool) : (h : Ch) → Vec F (sh h) .bf16
  | .inl j => sumV I d j.val c
  | .inr j => finQ I d (decide (j.val % 2 = 1)) (back d (j.val / 2) c)

/-! ## The result on a device -/

/-- The rows of chunk `e`: the owner keeps what it finished, the others what travelled. -/
def outT (c : Dev nD) : Vec F S2048x1024 .f32 := fun i =>
  have e : Dev nD := ⟨(i (0 : Fin 2)).val / 512, by have := (i (0 : Fin 2)).isLt; change _ < 2048 at this; show _ < 4; omega⟩
  have d : Bool := decide ((i (0 : Fin 2)).val % 512 / 256 = 1)
  have v := fin I d e (at2 (n := 256) (m := 1024) ⟨(i (0 : Fin 2)).val % 256, Nat.mod_lt _ (by decide)⟩ (i (1 : Fin 2)))
  if e = c then v else FloatOps.extf .f32 bitsLt_bf16_f32 (FloatOps.truncf .bf16 bitsLt_bf16_f32 v)

end Cert.KernelIdeal.Vals
-- ==== Proof.Start.lean ====
/-
  The body of the kernel, its buffers named, and its first part: the handshake with both neighbours.
-/
module

public import proofs.«01_k».proof.Proof.Vals

@[expose] public section
noncomputable section
namespace Cert.KernelIdeal.Body
open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ UU ℕ
variable (CX : Dev nD → Bool → (h : Ch) → Vec F (sh h) .bf16) (I : Dev nD → In F) (K : Dev nD × CellKind → ℕ)

/-- The body, over the staged blocks and the scratch. -/
abbrev bodyAt : Prog (TpuEff nD τ sig (Elt F) Λ₀ .tc) PUnit :=
  cc0__fused_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13

/-- A whole buffer. -/
abbrev pts (c : Dev nD) (b : Ref sig .tc) (f : Buf (Elt F) ((c : Thread nD τ).loc b)) : sProp 𝕄 := (Memref.whole b).view.loc (c : Thread nD τ) ↦{fullShare} f

/-- What the first part leaves to the others. -/
abbrev after1 (d0 : Dev nD) : Σ' (d0 : Dev nD) (v2 : BitVec 32) (v5 : BitVec 32) (v7 : BitVec 32) (v13 : IVec S256x256 32) (v14 : IVec S256x256 32) (v32 : IVec S256x256 1), BitVec 32 :=
  ⟨d0, Scalar.remsi (Scalar.divsi (Dev.word d0) 1#32) 4#32,
   Scalar.remsi (Scalar.subi (Scalar.addi (Scalar.remsi (Scalar.divsi (Dev.word d0) 1#32) 4#32) 4#32) 1#32) 4#32,
   Scalar.remsi (Scalar.addi (Scalar.remsi (Scalar.divsi (Dev.word d0) 1#32) 4#32) 1#32) 4#32,
   iota .tc S256x256 32 [0] iota_S256x256_d0_w32, iota .tc S256x256 32 [1] iota_S256x256_d1_w32, k0_pay1, 1#32⟩

/-- The handshake. -/
theorem part1_wp (c : Dev nD) (Q) :
    iprop(Hello CX K c ∗ (Talk CX K c 0 0 -∗ Q (after1 c)))
      ⊢ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13) Q := by
  iintro ⟨Hhello, HQ⟩
  rw [k0_part1_eq_skeleton]
  unfold k0_part1_skel
  simp only [semSignalWord, semWaitWord, Prog.lift, Prog.bind_op, Prog.bind_ret, Prog.pure_eq_ret, wp_deviceId]
  iapply (hello_talk CX K c _ _ (Fin.ext (k0_dev1_eq c)) (Fin.ext (k0_dev2_eq c))) $$ [Hhello]; · iexact Hhello
  iintro Ht
  rw [wp_ret]
  imodintro
  iapply HQ $$ [Ht]; iexact Ht

/-- A slot of a three-slot buffer. -/
abbrev s3 (M : Memref sig .tc .vmem S3x256x1024 .bf16) (k : ℕ) (hk : ∀ a, (![k, 0, 0] : Fin 3 → Nat) a + S1x256x1024.size a ≤ S3x256x1024.size a) : Memref sig .tc .vmem S256x1024 .bf16 :=
  (M.slice (Rect.unit (s := S3x256x1024) ![k, 0, 0] S1x256x1024.size hk) (fun _ => rfl)).squeeze S256x1024 squeezes_S1x256x1024_S256x1024

/-- The eight-slot one's. -/
abbrev s8 (M : Memref sig .tc .vmem S8x128x1024 .bf16) (k : ℕ) (hk : ∀ a, (![k, 0, 0] : Fin 3 → Nat) a + S1x128x1024.size a ≤ S8x128x1024.size a) : Memref sig .tc .vmem S128x1024 .bf16 :=
  (M.slice (Rect.unit (s := S8x128x1024) ![k, 0, 0] S1x128x1024.size hk) (fun _ => rfl)).squeeze S128x1024 squeezes_S1x128x1024_S128x1024

/-- What a memref shows, held at contents of its buffer. -/
abbrev win (c : Dev nD) {s : Shape} (M : Memref sig .tc .vmem s .bf16) (q : PosShare TreeShare) (f : Buf (Elt F) (M.view.loc (c : Thread nD τ))) : sProp 𝕄 := M.view.loc (c : Thread nD τ) ↦[M.view.set]{q} f

end Cert.KernelIdeal.Body
-- ==== Proof.Fill.lean ====
/-
  Contents of the buffers after the body's stores, restated.
-/
module

public import proofs.«01_k».proof.Proof.Start
public import Idealize.ShloMosaic.Lib.WritesUnit
public import Idealize.ShloMosaic.Lib.Pipeline.Value

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (c : Dev nD)

/-- A slot of three, after a store of a shape-cast through the whole buffer. -/
theorem stored3 (M : Memref sig .tc .vmem S3x256x1024 .bf16) (k : ℕ) (hk) (f : M.view.ty.Contents (Elt F)) (X : Vec F S256x1024 .bf16) (hc) :
    (s3 M k hk).view.read (Elt F) ((M.access (Rect.unit (s := S3x256x1024) ![k, 0, 0] S1x256x1024.size hk)).write (Elt F) f (shapeCast S1x256x1024 X hc) Finset.univ) = X := by
  refine (Memref.read_squeeze_slice M _ _ _ (show S1x256x1024.ShapeCasts S256x1024 by decide) _).trans ?_
  refine (congrArg (fun z => shapeCast S256x1024 z _) (View.read_write_univ _ _)).trans (shapeCast_shapeCast _ _ _)

theorem stored8 (M : Memref sig .tc .vmem S8x128x1024 .bf16) (k : ℕ) (hk) (f : M.view.ty.Contents (Elt F)) (X : Vec F S128x1024 .bf16) (hc) :
    (s8 M k hk).view.read (Elt F) ((M.access (Rect.unit (s := S8x128x1024) ![k, 0, 0] S1x128x1024.size hk)).write (Elt F) f (shapeCast S1x128x1024 X hc) Finset.univ) = X := by
  refine (Memref.read_squeeze_slice M _ _ _ (show S1x128x1024.ShapeCasts S128x1024 by decide) _).trans ?_
  refine (congrArg (fun z => shapeCast S128x1024 z _) (View.read_write_univ _ _)).trans (shapeCast_shapeCast _ _ _)

/-- A load of a slot through the whole buffer, cast to the slot's own shape. -/
theorem loaded3 (M : Memref sig .tc .vmem S3x256x1024 .bf16) (k : ℕ) (hk) (f : M.view.ty.Contents (Elt F)) (hc) :
    shapeCast S256x1024 (M.view.readAt (Elt F) (Rect.unit (s := S3x256x1024) ![k, 0, 0] S1x256x1024.size hk).toLoadRect f) hc = (s3 M k hk).view.read (Elt F) f := rfl

theorem loaded8 (M : Memref sig .tc .vmem S8x128x1024 .bf16) (k : ℕ) (hk) (f : M.view.ty.Contents (Elt F)) (hc) :
    shapeCast S128x1024 (M.view.readAt (Elt F) (Rect.unit (s := S8x128x1024) ![k, 0, 0] S1x128x1024.size hk).toLoadRect f) hc = (s8 M k hk).view.read (Elt F) f := rfl

/-- What a slot counts when its transfer lands. -/
theorem land_credit (d : Bool) (h : Ch) : (landM d h).view.dmaCredit = amt h := by
  cases d <;> rcases h with j | j <;> rfl

theorem src_credit (d : Bool) (h : Ch) : (srcM d h).view.dmaCredit = amt h := by
  cases d <;> rcases h with j | j <;> rfl

/-! ## The keys and the values -/

/-- The four stores that fill a table of column blocks. -/
abbrev fills (p : Fin 4 → FVec F S2048x256 .bf16) : List (View.Piece (Elt F) S2048x1024 .bf16) :=
  [⟨Rect.unit (s := S2048x1024) ![0, 768] S2048x256.size inb_S2048x1024_S2048x256_0_768, p 3⟩,
   ⟨Rect.unit (s := S2048x1024) ![0, 512] S2048x256.size inb_S2048x1024_S2048x256_0_512, p 2⟩,
   ⟨Rect.unit (s := S2048x1024) ![0, 256] S2048x256.size inb_S2048x1024_S2048x256_0_256, p 1⟩,
   ⟨Rect.unit (s := S2048x1024) ![0, 0] S2048x256.size inb_S2048x1024_S2048x256_0_0, p 0⟩]

theorem beside_piece (p : Fin 4 → FVec F S2048x256 .bf16) (j : Fin 4) (h) (x : S2048x256.Idx) :
    p j x = beside p ((Rect.unit (s := S2048x1024) ![0, 256 * j.val] S2048x256.size h).emb x) := by
  have h1 : (x (1 : Fin 2)).val < 256 := (x (1 : Fin 2)).isLt
  have e1 : (((Rect.unit (s := S2048x1024) ![0, 256 * j.val] S2048x256.size h).emb x) (1 : Fin 2)).val = 256 * j.val + 1 * (x (1 : Fin 2)).val := rfl
  have e0 : (((Rect.unit (s := S2048x1024) ![0, 256 * j.val] S2048x256.size h).emb x) (0 : Fin 2)).val = 0 + 1 * (x (0 : Fin 2)).val := rfl
  unfold beside
  congr 1
  · exact Fin.ext (by show j.val = (((Rect.unit (s := S2048x1024) ![0, 256 * j.val] S2048x256.size h).emb x) (1 : Fin 2)).val / 256; omega)
  · rw [← Shape.pair_eta (d := ![2048, 256]) x]
    unfold at2
    congr 1
    · exact Fin.ext (by show (x (0 : Fin 2)).val = (((Rect.unit (s := S2048x1024) ![0, 256 * j.val] S2048x256.size h).emb (Shape.pair (d := ![2048, 256]) (x 0) (x 1))) (0 : Fin 2)).val; rw [Shape.pair_eta (d := ![2048, 256]) x]; omega)
    · exact Fin.ext (by show (x (1 : Fin 2)).val = (((Rect.unit (s := S2048x1024) ![0, 256 * j.val] S2048x256.size h).emb (Shape.pair (d := ![2048, 256]) (x 0) (x 1))) (1 : Fin 2)).val % 256; rw [Shape.pair_eta (d := ![2048, 256]) x]; omega)

theorem fills_piece (p : Fin 4 → FVec F S2048x256 .bf16) : ∀ q ∈ fills p, ∀ x, q.2 x = beside p (q.1.emb x) := by
  intro q hq x
  simp only [fills, List.mem_cons, List.not_mem_nil, or_false] at hq
  rcases hq with rfl | rfl | rfl | rfl
  · exact beside_piece p 3 inb_S2048x1024_S2048x256_0_768 x
  · exact beside_piece p 2 inb_S2048x1024_S2048x256_0_512 x
  · exact beside_piece p 1 inb_S2048x1024_S2048x256_0_256 x
  · exact beside_piece p 0 inb_S2048x1024_S2048x256_0_0 x

theorem fills_cover (p : Fin 4 → FVec F S2048x256 .bf16) (y : S2048x1024.Idx) : ∃ q ∈ fills p, y ∈ q.1.set := by
  have h0 : (y (0 : Fin 2)).val < 2048 := (y (0 : Fin 2)).isLt
  have h1 : (y (1 : Fin 2)).val < 1024 := (y (1 : Fin 2)).isLt
  have mem : ∀ (o : ℕ) (h), o ≤ (y (1 : Fin 2)).val → (y (1 : Fin 2)).val < o + 256 →
      y ∈ (Rect.unit (s := S2048x1024) ![0, o] S2048x256.size h).set := fun o h ha hb => by
    rw [Rect.mem_set_unit]
    intro a
    fin_cases a
    · exact ⟨Nat.zero_le _, by simpa using h0⟩
    · exact ⟨ha, hb⟩
  by_cases a : (y (1 : Fin 2)).val < 256
  · exact ⟨_, List.mem_cons_of_mem _ (List.mem_cons_of_mem _ (List.mem_cons_of_mem _ List.mem_cons_self)), mem 0 inb_S2048x1024_S2048x256_0_0 (by omega) (by omega)⟩
  by_cases a : (y (1 : Fin 2)).val < 512
  · exact ⟨_, List.mem_cons_of_mem _ (List.mem_cons_of_mem _ List.mem_cons_self), mem 256 inb_S2048x1024_S2048x256_0_256 (by omega) (by omega)⟩
  by_cases a : (y (1 : Fin 2)).val < 768
  · exact ⟨_, List.mem_cons_of_mem _ List.mem_cons_self, mem 512 inb_S2048x1024_S2048x256_0_512 (by omega) (by omega)⟩
  · exact ⟨_, List.mem_cons_self, mem 768 inb_S2048x1024_S2048x256_0_768 (by omega) (by omega)⟩

theorem filled (v : View sig .tc .vmem S2048x1024 .bf16) (p : Fin 4 → FVec F S2048x256 .bf16) (f) :
    v.read (Elt F) (v.writes (Elt F) f (fills p)) = beside p :=
  funext fun y => View.read_writes_apply_of_pieces v _ (beside p) _ (fills_piece p) y (fills_cover p y)

/-- A load of one head's columns from such a table. -/
theorem filled_load (v : View sig .tc .vmem S2048x1024 .bf16) (p : Fin 4 → FVec F S2048x256 .bf16) (r : LoadRect S2048x1024) :
    v.readCov (fills p) r = fun j => beside p (r.idx j) := by
  show v.readAt (Elt F) r (v.writes (Elt F) _ (fills p)) = _
  funext j
  exact congrFun (filled v p _) _

/-- A table stored whole. -/
theorem whole_write (v : View sig .tc .vmem S2048x128 .f32) (f) (i) (p : FVec F S2048x128 .f32) :
    v.read (Elt F) (v.writes (Elt F) f [⟨Rect.unit (s := S2048x128) ![0, 0] S2048x128.size i, p⟩]) = p :=
  funext fun y => View.read_writes_cons_unit_of_mem v f i p [] y y rfl fun a => by
    fin_cases a <;> exact (Nat.zero_add _).symm

theorem whole_idx {s : Shape} {o : Fin s.rank → ℕ} (ho : ∀ a, o a = 0) (i) (j : s.Idx) : (Rect.unit (s := s) o s.size i).toLoadRect.idx j = j :=
  funext fun a => Fin.ext (by show o a + 1 * (j a).val = (j a).val; rw [ho a]; omega)

/-- A load of all of a table stored whole. -/
theorem whole_load (v : View sig .tc .vmem S2048x128 .f32) (i i') (p : FVec F S2048x128 .f32) :
    @Eq (Vec F S2048x128 .f32) (v.readCov (Val := Elt F) [⟨Rect.unit (s := S2048x128) ![0, 0] S2048x128.size i, p⟩] (Rect.unit (s := S2048x128) ![0, 0] S2048x128.size i').toLoadRect) p := by
  show v.readAt (Elt F) _ (v.writes (Elt F) _ _) = _
  funext j
  exact (congrFun (whole_write v _ i p) _).trans (congrArg p (whole_idx (s := S2048x128) (by decide) i' j))

/-- The table of keys filled. -/
theorem scratch2_write (f) (p : Fin 4 → FVec F S2048x256 .bf16) :
    @Eq (Buf (Elt F) ((c : Thread nD τ).loc cc0_scratch2)) ((Memref.whole cc0_scratch2).view.writes (Elt F) f (fills p)) (beside p) :=
  (View.read_whole cc0_scratch2 _).symm.trans (filled (Memref.whole cc0_scratch2).view p f)

/-- The table of values filled. -/
theorem scratch3_write (f) (p : Fin 4 → FVec F S2048x256 .bf16) :
    @Eq (Buf (Elt F) ((c : Thread nD τ).loc cc0_scratch3)) ((Memref.whole cc0_scratch3).view.writes (Elt F) f (fills p)) (beside p) :=
  (View.read_whole cc0_scratch3 _).symm.trans (filled (Memref.whole cc0_scratch3).view p f)

/-- The table of cosines stored whole, -/
theorem scratch0_write (f) (i) (p : FVec F S2048x128 .f32) :
    @Eq (Buf (Elt F) ((c : Thread nD τ).loc cc0_scratch0)) ((Memref.whole cc0_scratch0).view.writes (Elt F) f [⟨Rect.unit (s := S2048x128) ![0, 0] S2048x128.size i, p⟩]) p :=
  (View.read_whole cc0_scratch0 _).symm.trans (whole_write (Memref.whole cc0_scratch0).view f i p)

/-- and a load of it. -/
theorem scratch0_load (o size : Fin 2 → ℕ) (i) (C : Vec F S2048x128 .f32) :
    @Eq ((⟨2, size⟩ : Shape).Idx → F .f32) ((Memref.whole cc0_scratch0).view.readAt (Elt F) (Rect.unit (s := S2048x128) o size i).toLoadRect C) (box C o size i) := rfl

/-- The table of sines stored whole, -/
theorem scratch1_write (f) (i) (p : FVec F S2048x128 .f32) :
    @Eq (Buf (Elt F) ((c : Thread nD τ).loc cc0_scratch1)) ((Memref.whole cc0_scratch1).view.writes (Elt F) f [⟨Rect.unit (s := S2048x128) ![0, 0] S2048x128.size i, p⟩]) p :=
  (View.read_whole cc0_scratch1 _).symm.trans (whole_write (Memref.whole cc0_scratch1).view f i p)

/-- and a load of it. -/
theorem scratch1_load (o size : Fin 2 → ℕ) (i) (C : Vec F S2048x128 .f32) :
    @Eq ((⟨2, size⟩ : Shape).Idx → F .f32) ((Memref.whole cc0_scratch1).view.readAt (Elt F) (Rect.unit (s := S2048x128) o size i).toLoadRect C) (box C o size i) := rfl

theorem stg0_load (o size : Fin 2 → ℕ) (i) (C : Vec F S2048x1024 .f32) :
    @Eq ((⟨2, size⟩ : Shape).Idx → F .f32) ((Memref.whole cc0_stg0_0).view.readAt (Elt F) (Rect.unit (s := S2048x1024) o size i).toLoadRect C) (box C o size i) := rfl

/-- The part of chunk `e` from loads of the buffers. -/
theorem part_read (I : In F) (e : Dev nD) {o o' : Fin 2 → ℕ} (h : o = ![512 * e.val, 0]) (h' : o' = ![512 * e.val, 0]) (i i')
    (C S : FVec F S2048x128 .f32) (hC : C = cosT) (hS : S = sinT) (hk hv : Fin 8 → Vec F S2048x128 .bf16)
    (hK : ∀ n, hk n = head (keyT I) n) (hV : ∀ n, hv n = head (valT I) n) :
    rowsPart I ((Memref.whole cc0_stg0_0).view.readAt (Elt F) (Rect.unit (s := S2048x1024) o S512x1024.size i).toLoadRect I.x)
      ((Memref.whole cc0_scratch0).view.readAt (Elt F) (Rect.unit (s := S2048x128) o' S512x128.size i').toLoadRect C)
      ((Memref.whole cc0_scratch1).view.readAt (Elt F) (Rect.unit (s := S2048x128) o' S512x128.size i').toLoadRect S) hk hv = part I e :=
  (congr (congr (congrArg (fun a b d => rowsPart I a b d hk hv) (stg0_load o _ i I.x)) (scratch0_load o' _ i' C)) (scratch1_load o' _ i' S)).trans
    (part_of I e h h' i i' C S hC hS hk hv hK hV)

/-- A box that is the whole array. -/
theorem box_whole (X : Vec F S2048x1024 .f32) (i) : box X ![0, 0] S2048x1024.size i = X :=
  funext fun j => congrArg X (whole_idx (s := S2048x1024) (by decide) i j)

/-- The same buffer under another name of its contents. -/
theorem restate {b : Ref sig .tc} {f g : Buf (Elt F) ((c : Thread nD τ).loc b)} (h : f = g) : pts c b f ⊢ (pts c b g : sProp 𝕄) := by
  subst h; exact .rfl

/-! ## What a transfer takes and brings -/

theorem pay_sb (I : Dev nD → In F) (d : Bool) (k : Fin 3) (f) (h : (slot3 (sbM d) k).view.read (Elt F) f = sumV I d k.val c) :
    win c (slot3 (sbM d) k) fullShare f ⊢ (sendPay (CX I) c d (.inl k) : sProp 𝕄) := by
  unfold sendPay owns
  iintro H
  iexists f
  isplitr [H]
  · ipureintro; exact h
  · iexact H

theorem pay_ag (I : Dev nD → In F) (d : Bool) (j : Fin 6) (f) (h : (slot8 (agM d) (lo8 j)).view.read (Elt F) f = CX I c d (.inr j)) :
    win c (slot8 (agM d) (lo8 j)) fullShare.left f ⊢ (sendPay (CX I) c d (.inr j) : sProp 𝕄) := by
  unfold sendPay owns
  iintro H
  iexists f
  isplitr [H]
  · ipureintro; exact h
  · iexact H

theorem got_rs (I : Dev nD → In F) (d : Bool) (k : Fin 3) :
    recvPay (CX I) c d (.inl k) ⊢ (iprop(∃ f, ⌜(slot3 (rsM d) k).view.read (Elt F) f = sumV I d k.val (src d c)⌝ ∗ win c (slot3 (rsM d) k) fullShare f) : sProp 𝕄) := by
  unfold recvPay owns
  exact .rfl

theorem got_ag (I : Dev nD → In F) (d : Bool) (j : Fin 6) :
    recvPay (CX I) c d (.inr j) ⊢ (iprop(∃ f, ⌜(slot8 (agM d) (hi8 j)).view.read (Elt F) f = CX I (src d c) d (.inr j)⌝ ∗ win c (slot8 (agM d) (hi8 j)) fullShare f) : sProp 𝕄) := by
  unfold recvPay owns
  exact .rfl

/-! ## The result's rows -/

/-- The rows of chunk `e` of the result's buffer. -/
abbrev rowsO (f : Vec F S2048x1024 .f32) (e : Dev nD) : Vec F S512x1024 .f32 := box f ![512 * e.val, 0] S512x1024.size (inb_rows e)

theorem put_read (v : View sig .tc .vmem S2048x1024 .f32) (f : v.ty.Contents (Elt F)) (e : Dev nD) (i) (A : FVec F S512x1024 .f32) :
    (∀ j, v.read (Elt F) (v.writes (Elt F) f [⟨Rect.unit (s := S2048x1024) ![512 * e.val, 0] S512x1024.size i, A⟩])
        ((Rect.unit (s := S2048x1024) ![512 * e.val, 0] S512x1024.size (inb_rows e)).toLoadRect.idx j) = A j)
    ∧ ∀ e', e' ≠ e → ∀ j, v.read (Elt F) (v.writes (Elt F) f [⟨Rect.unit (s := S2048x1024) ![512 * e.val, 0] S512x1024.size i, A⟩])
        ((Rect.unit (s := S2048x1024) ![512 * e'.val, 0] S512x1024.size (inb_rows e')).toLoadRect.idx j)
      = v.read (Elt F) f ((Rect.unit (s := S2048x1024) ![512 * e'.val, 0] S512x1024.size (inb_rows e')).toLoadRect.idx j) := by
  refine ⟨fun j => View.read_writes_cons_emb v f (Rect.unit (s := S2048x1024) ![512 * e.val, 0] S512x1024.size i) A [] j, fun e' he j => ?_⟩
  refine (View.read_writes_cons_unit_of_not_mem v f i A [] _ rfl (0 : Fin 2) ?_).trans ?_
  · have h : (j (0 : Fin 2)).val < 512 := (j (0 : Fin 2)).isLt
    have hne : e'.val ≠ e.val := fun h => he (Fin.ext h)
    show 512 * e'.val + 1 * (j (0 : Fin 2)).val < 512 * e.val ∨ 512 * e.val + 512 ≤ 512 * e'.val + 1 * (j (0 : Fin 2)).val
    omega
  · rw [View.writes_nil]

/-- After a store of chunk `e`'s rows, these are what was stored, and the other chunks' as they were. -/
theorem put_rows (f : Vec F S2048x1024 .f32) (e : Dev nD) {o : Fin 2 → ℕ} (ho : o = ![512 * e.val, 0]) (i) (A B : FVec F S512x1024 .f32) (hA : A = B) :
    pts c cc0_stg5_0 ((Memref.whole cc0_stg5_0).view.writes (Elt F) f [⟨Rect.unit (s := S2048x1024) o S512x1024.size i, A⟩])
      ⊢ (iprop(∃ g : Vec F S2048x1024 .f32, ⌜rowsO g e = B ∧ ∀ e', e' ≠ e → rowsO g e' = rowsO f e'⌝ ∗ pts c cc0_stg5_0 g) : sProp 𝕄) := by
  subst ho hA
  have hp := put_read (F := F) (Memref.whole cc0_stg5_0).view f e i A
  iintro H
  iexists ((Memref.whole cc0_stg5_0).view.writes (Elt F) f [⟨Rect.unit (s := S2048x1024) ![512 * e.val, 0] S512x1024.size i, A⟩])
  isplitr [H]
  · ipureintro
    exact ⟨funext fun j => (congrFun (View.read_whole cc0_stg5_0 _) _).symm.trans (hp.1 j),
      fun e' he => funext fun j => (congrFun (View.read_whole cc0_stg5_0 _) _).symm.trans (hp.2 e' he j)⟩
  · iexact H

end Cert.KernelIdeal.Body
-- ==== Proof.Out.lean ====
/-
  The result's buffer as it fills with the finished rows.
-/
module

public import Idealize.ShloMosaic.Lib.WritesUnit
public import Idealize.ShloMosaic.Lib.Pipeline.Value
public import proofs.«01_k».proof.Proof.Fill

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (c : Dev nD)

theorem inb_half (e : Dev nD) (d : Bool) : ∀ a, (![512 * e.val + 256 * d.toNat, 0] : Fin 2 → ℕ) a + S256x1024.size a ≤ S2048x1024.size a := by
  revert e d; decide
theorem inb_quarter (e : Dev nD) (d u : Bool) : ∀ a, (![512 * e.val + 256 * d.toNat + 128 * u.toNat, 0] : Fin 2 → ℕ) a + S128x1024.size a ≤ S2048x1024.size a := by
  revert e d u; decide

/-- Half a chunk's rows, as the body loads them back. -/
theorem half_load (f : Vec F S2048x1024 .f32) (e : Dev nD) (d : Bool) {o : Fin 2 → ℕ} (ho : o = ![512 * e.val + 256 * d.toNat, 0]) (i) (hc : S256x1024.ShapeCasts S256x1024)
    (B : FVec F S512x1024 .f32) (hB : rowsO f e = B) :
    shapeCast (α := F .f32) (s := S256x1024) S256x1024 ((Memref.whole cc0_stg5_0).view.readAt (Elt F) (Rect.unit (s := S2048x1024) o S256x1024.size i).toLoadRect f) hc = half d B := by
  subst ho hB
  refine (shapeCast_self _ _).trans (funext fun j => ?_)
  have h1 : (half d (rowsO f e)) j = f ((Rect.unit (s := S2048x1024) ![512 * e.val + 256 * d.toNat, 0] S256x1024.size (inb_half e d)).toLoadRect.idx j) := by
    cases d
    · refine congrArg f (funext fun a => Fin.ext ?_)
      match a with
      | ⟨0, _⟩ => show 512 * e.val + 1 * (0 + (j (0 : Fin 2)).val) = 512 * e.val + 256 * 0 + 1 * (j (0 : Fin 2)).val; omega
      | ⟨1, _⟩ => show 0 + 1 * (0 + (j (1 : Fin 2)).val) = 0 + 1 * (j (1 : Fin 2)).val; omega
    · refine congrArg f (funext fun a => Fin.ext ?_)
      match a with
      | ⟨0, _⟩ => show 512 * e.val + 1 * (256 + (j (0 : Fin 2)).val) = 512 * e.val + 256 * 1 + 1 * (j (0 : Fin 2)).val; omega
      | ⟨1, _⟩ => show 0 + 1 * (0 + (j (1 : Fin 2)).val) = 0 + 1 * (j (1 : Fin 2)).val; omega
  exact h1.symm

/-- The buffer holds the result in the blocks of 128 rows numbered in `S`. -/
def Good (S : List ℕ) (f : Vec F S2048x1024 .f32) : Prop := ∀ y : S2048x1024.Idx, (y (0 : Fin 2)).val / 128 ∈ S → f y = outT I c y

theorem write_good {S bs : List ℕ} {f : Vec F S2048x1024 .f32} (hf : Good I c S f) {o o' size : Fin 2 → ℕ} (ho : o = o') (i i')
    (v : View sig .tc .vmem S2048x1024 .f32) (f' : v.ty.Contents (Elt F)) (hv : v.read (Elt F) f' = f)
    (A : (⟨2, size⟩ : Shape).Idx → F .f32) (hA : ∀ x, A x = outT I c ((Rect.unit (s := S2048x1024) o' size i').toLoadRect.idx x))
    (hin : ∀ n, n / 128 ∈ bs → o' 0 ≤ n ∧ n < o' 0 + size 0) (hc : o' 1 = 0 ∧ size 1 = 1024) :
    Good I c (bs ++ S) (v.read (Elt F) (v.writes (Elt F) f' [⟨Rect.unit (s := S2048x1024) o size i, A⟩])) := by
  subst ho
  intro y hy
  by_cases hr : o 0 ≤ (y (0 : Fin 2)).val ∧ (y (0 : Fin 2)).val < o 0 + size 0
  · have h1 : (y (1 : Fin 2)).val < 1024 := (y (1 : Fin 2)).isLt
    have hlt : ∀ a : Fin 2, (y a).val - o a < size a := by
      intro a; match a with
      | ⟨0, _⟩ => show (y (0 : Fin 2)).val - o 0 < size 0; omega
      | ⟨1, _⟩ => show (y (1 : Fin 2)).val - o 1 < size 1; omega
    have hx : ∀ a : Fin 2, (y a).val = o a + ((y a).val - o a) := by
      intro a; match a with
      | ⟨0, _⟩ => show (y (0 : Fin 2)).val = o 0 + ((y (0 : Fin 2)).val - o 0); omega
      | ⟨1, _⟩ => show (y (1 : Fin 2)).val = o 1 + ((y (1 : Fin 2)).val - o 1); omega
    refine (View.read_writes_cons_unit_of_mem v f' i A [] y (fun a => ⟨(y a).val - o a, hlt a⟩) rfl hx).trans ((hA _).trans ?_)
    refine congrArg (outT I c) (funext fun a => Fin.ext ?_)
    show o a + 1 * ((y a).val - o a) = (y a).val
    rw [Nat.one_mul]; exact (hx a).symm
  · have hm : (y (0 : Fin 2)).val / 128 ∈ S := (List.mem_append.mp hy).resolve_left fun h => hr (hin _ h)
    refine (View.read_writes_cons_unit_of_not_mem v f' i A [] y rfl (0 : Fin 2) ?_).trans ?_
    · show (y (0 : Fin 2)).val < o 0 ∨ o 0 + size 0 ≤ (y (0 : Fin 2)).val
      omega
    · rw [View.writes_nil, hv]; exact hf y hm

theorem put_good {S : List ℕ} {f : Vec F S2048x1024 .f32} (hf : Good I c S f) (bs : List ℕ) {o o' size : Fin 2 → ℕ} (ho : o = o') (i i')
    (A : (⟨2, size⟩ : Shape).Idx → F .f32) (hA : ∀ x, A x = outT I c ((Rect.unit (s := S2048x1024) o' size i').toLoadRect.idx x))
    (hin : ∀ n, n / 128 ∈ bs → o' 0 ≤ n ∧ n < o' 0 + size 0) (hc : o' 1 = 0 ∧ size 1 = 1024) :
    pts c cc0_stg5_0 ((Memref.whole cc0_stg5_0).view.writes (Elt F) f [⟨Rect.unit (s := S2048x1024) o size i, A⟩])
      ⊢ (iprop(∃ g : Vec F S2048x1024 .f32, ⌜Good I c (bs ++ S) g⌝ ∗ pts c cc0_stg5_0 g) : sProp 𝕄) := by
  have hp := write_good I c hf ho i i' (Memref.whole cc0_stg5_0).view f (View.read_whole cc0_stg5_0 f) A hA hin hc
  iintro H
  iexists ((Memref.whole cc0_stg5_0).view.writes (Elt F) f [⟨Rect.unit (s := S2048x1024) o size i, A⟩])
  isplitr [H]
  · ipureintro
    exact hp
  · iexact H

/-- The finished rows at their owner. -/
theorem out_own (d : Bool) (x : S256x1024.Idx) :
    fin I d c x = outT I c ((Rect.unit (s := S2048x1024) ![512 * c.val + 256 * d.toNat, 0] S256x1024.size (inb_half c d)).toLoadRect.idx x) := by
  have hx : (x (0 : Fin 2)).val < 256 := (x (0 : Fin 2)).isLt
  have hd : d.toNat ≤ 1 := by cases d <;> decide
  have key : ∀ (e : Dev nD) (d' : Bool) (w : S256x1024.Idx), e = c → d' = d → w = x → fin I d c x = if e = c then fin I d' e w else FloatOps.extf .f32 bitsLt_bf16_f32 (FloatOps.truncf .bf16 bitsLt_bf16_f32 (fin I d' e w)) := by
    intro e d' w h1 h2 h3; subst h1 h2 h3; rw [if_pos rfl]
  refine key _ _ _ (Fin.ext ?_) ?_ (funext fun a => Fin.ext ?_)
  · show (512 * c.val + 256 * d.toNat + 1 * (x (0 : Fin 2)).val) / 512 = c.val; omega
  · show decide ((512 * c.val + 256 * d.toNat + 1 * (x (0 : Fin 2)).val) % 512 / 256 = 1) = d
    cases d
    · exact decide_eq_false (by show ¬ ((512 * c.val + 256 * 0 + 1 * (x (0 : Fin 2)).val) % 512 / 256 = 1); omega)
    · exact decide_eq_true (by show ((512 * c.val + 256 * 1 + 1 * (x (0 : Fin 2)).val) % 512 / 256 = 1); omega)
  · match a with
    | ⟨0, _⟩ => show (512 * c.val + 256 * d.toNat + 1 * (x (0 : Fin 2)).val) % 256 = (x (0 : Fin 2)).val; omega
    | ⟨1, _⟩ => show 0 + 1 * (x (1 : Fin 2)).val = (x (1 : Fin 2)).val; omega

/-- The rows of another device's chunk, which arrived. -/
theorem out_got (e : Dev nD) (he : e ≠ c) (d u : Bool) (x : S128x1024.Idx) :
    (extf .f32 (finQ I d u e) bitsLt_bf16_f32 : FVec F S128x1024 .f32) x
      = outT I c ((Rect.unit (s := S2048x1024) ![512 * e.val + 256 * d.toNat + 128 * u.toNat, 0] S128x1024.size (inb_quarter e d u)).toLoadRect.idx x) := by
  have hx : (x (0 : Fin 2)).val < 128 := (x (0 : Fin 2)).isLt
  have hu : u.toNat ≤ 1 := by cases u <;> decide
  have key : ∀ (e' : Dev nD) (d' : Bool) (w : S256x1024.Idx) (v : F .f32), e' = e → d' = d → v = fin I d e w →
      FloatOps.extf .f32 bitsLt_bf16_f32 (FloatOps.truncf .bf16 bitsLt_bf16_f32 v) = if e' = c then fin I d' e' w else FloatOps.extf .f32 bitsLt_bf16_f32 (FloatOps.truncf .bf16 bitsLt_bf16_f32 (fin I d' e' w)) := by
    intro e d' w v h1 h2 h3; subst h1 h2 h3; rw [if_neg he]
  refine key _ _ _ (quarter u (fin I d e) x) (Fin.ext ?_) ?_ ?_
  · show (512 * e.val + 256 * d.toNat + 128 * u.toNat + 1 * (x (0 : Fin 2)).val) / 512 = e.val
    have hd : d.toNat ≤ 1 := by cases d <;> decide
    omega
  · show decide ((512 * e.val + 256 * d.toNat + 128 * u.toNat + 1 * (x (0 : Fin 2)).val) % 512 / 256 = 1) = d
    cases d
    · exact decide_eq_false (by show ¬ ((512 * e.val + 256 * 0 + 128 * u.toNat + 1 * (x (0 : Fin 2)).val) % 512 / 256 = 1); omega)
    · exact decide_eq_true (by show ((512 * e.val + 256 * 1 + 128 * u.toNat + 1 * (x (0 : Fin 2)).val) % 512 / 256 = 1); omega)
  · cases u
    · refine congrArg (fin I d e) (funext fun a => Fin.ext ?_)
      match a with
      | ⟨0, _⟩ => show 0 + (x (0 : Fin 2)).val = (512 * e.val + 256 * d.toNat + 128 * 0 + 1 * (x (0 : Fin 2)).val) % 256; omega
      | ⟨1, _⟩ => show 0 + (x (1 : Fin 2)).val = 0 + 1 * (x (1 : Fin 2)).val; omega
    · refine congrArg (fin I d e) (funext fun a => Fin.ext ?_)
      match a with
      | ⟨0, _⟩ => show 128 + (x (0 : Fin 2)).val = (512 * e.val + 256 * d.toNat + 128 * 1 + 1 * (x (0 : Fin 2)).val) % 256; omega
      | ⟨1, _⟩ => show 0 + (x (1 : Fin 2)).val = 0 + 1 * (x (1 : Fin 2)).val; omega

/-- The owner stores a half chunk. -/
theorem put_own {S : List ℕ} {f : Vec F S2048x1024 .f32} (hf : Good I c S f) (d : Bool) {o : Fin 2 → ℕ} (ho : o = ![512 * c.val + 256 * d.toNat, 0]) (i)
    (A : FVec F S256x1024 .f32) (hA : A = fin I d c) :
    pts c cc0_stg5_0 ((Memref.whole cc0_stg5_0).view.writes (Elt F) f [⟨Rect.unit (s := S2048x1024) o S256x1024.size i, A⟩])
      ⊢ (iprop(∃ g : Vec F S2048x1024 .f32, ⌜Good I c ([4 * c.val + 2 * d.toNat, 4 * c.val + 2 * d.toNat + 1] ++ S) g⌝ ∗ pts c cc0_stg5_0 g) : sProp 𝕄) :=
  put_good I c hf [4 * c.val + 2 * d.toNat, 4 * c.val + 2 * d.toNat + 1] ho i (inb_half c d) A (fun x => (congrFun hA x).trans (out_own I c d x))
    (by
      intro n hn
      have hn : n / 128 = 4 * c.val + 2 * d.toNat ∨ n / 128 = 4 * c.val + 2 * d.toNat + 1 := by simpa using hn
      show 512 * c.val + 256 * d.toNat ≤ n ∧ n < 512 * c.val + 256 * d.toNat + 256
      omega) ⟨rfl, rfl⟩

/-- A quarter chunk that arrived is stored. -/
theorem put_got {S : List ℕ} {f : Vec F S2048x1024 .f32} (hf : Good I c S f) (e : Dev nD) (he : e ≠ c) (d u : Bool) {o : Fin 2 → ℕ} (ho : o = ![512 * e.val + 256 * d.toNat + 128 * u.toNat, 0]) (i)
    (A : FVec F S128x1024 .bf16) (B : FVec F S128x1024 .f32) (hB : B = extf .f32 A bitsLt_bf16_f32) (hA : A = finQ I d u e) :
    pts c cc0_stg5_0 ((Memref.whole cc0_stg5_0).view.writes (Elt F) f [⟨Rect.unit (s := S2048x1024) o S128x1024.size i, B⟩])
      ⊢ (iprop(∃ g : Vec F S2048x1024 .f32, ⌜Good I c ([4 * e.val + 2 * d.toNat + u.toNat] ++ S) g⌝ ∗ pts c cc0_stg5_0 g) : sProp 𝕄) :=
  put_good I c hf [4 * e.val + 2 * d.toNat + u.toNat] ho i (inb_quarter e d u) B
    (fun x => (congrFun (hB.trans (congrArg (fun A => extf .f32 A bitsLt_bf16_f32) hA)) x).trans (out_got I c e he d u x))
    (by
      intro n hn
      have hn : n / 128 = 4 * e.val + 2 * d.toNat + u.toNat := by simpa using hn
      show 512 * e.val + 256 * d.toNat + 128 * u.toNat ≤ n ∧ n < 512 * e.val + 256 * d.toNat + 128 * u.toNat + 128
      omega) ⟨rfl, rfl⟩

theorem good_nil (f : Vec F S2048x1024 .f32) : Good I c [] f := fun y h => by cases h

theorem good_all {S : List ℕ} {f : Vec F S2048x1024 .f32} (hf : Good I c S f) (h : ∀ n : Fin 16, n.val ∈ S) : f = outT I c := by
  funext y
  have hy : (y (0 : Fin 2)).val < 2048 := (y (0 : Fin 2)).isLt
  exact hf y (h ⟨(y (0 : Fin 2)).val / 128, by omega⟩)

/-- Half of a slot to lend, half to keep. -/
theorem halve {s : Shape} (M : Memref sig .tc .vmem s .bf16) (f : Buf (Elt F) (M.view.loc (c : Thread nD τ))) :
    win c M fullShare f ⊢ (iprop(win c M fullShare.left f ∗ win c M fullShare.right f) : sProp 𝕄) :=
  (pointsTo_share (PosShare.mem_left_op_right fullShare)).1

end Cert.KernelIdeal.Body
-- ==== Proof.Ends.lean ====
/-
  The slots at the end of the body.
-/
module

public import proofs.«01_k».proof.Proof.Out

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (c : Dev nD)

theorem sep3 (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

theorem sep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide), bigSepL_cons_cons, bigSepL_cons_cons, bigSepL_cons_cons, bigSepL_cons_cons,
    bigSepL_cons_cons, bigSepL_cons_cons, bigSepL_cons_cons, bigSepL_singleton]
  rfl

theorem three (M : Memref sig .tc .vmem S3x256x1024 .bf16) (h0 h1 h2) (f₀ f₁ f₂) :
    iprop(win c (s3 M 0 h0) fullShare f₀ ∗ win c (s3 M 1 h1) fullShare f₁ ∗ win c (s3 M 2 h2) fullShare f₂)
      ⊢ (bigSep Finset.univ fun k : Fin 3 => iprop(∃ f : Buf (Elt F) ((slot3 M k).view.loc (c : Thread nD τ)), win c (slot3 M k) fullShare f) : sProp 𝕄) := by
  rw [sep3]
  iintro ⟨H0, H1, H2⟩
  isplitl [H0]; · iexists _; iexact H0
  isplitl [H1]; · iexists _; iexact H1
  iexists _; iexact H2

theorem eight (M : Memref sig .tc .vmem S8x128x1024 .bf16) (h0 h1 h2 h3 h4 h5 h6 h7) (f₀ f₁ f₂ f₃ f₄ f₅ f₆ f₇) :
    iprop(win c (s8 M 0 h0) fullShare.right f₀ ∗ win c (s8 M 1 h1) fullShare.right f₁ ∗ win c (s8 M 2 h2) fullShare.right f₂ ∗ win c (s8 M 3 h3) fullShare.right f₃
        ∗ win c (s8 M 4 h4) fullShare.right f₄ ∗ win c (s8 M 5 h5) fullShare.right f₅ ∗ win c (s8 M 6 h6) fullShare f₆ ∗ win c (s8 M 7 h7) fullShare f₇)
      ⊢ (bigSep Finset.univ fun k : Fin 8 => iprop(∃ f : Buf (Elt F) ((slot8 M k).view.loc (c : Thread nD τ)), win c (slot8 M k) (if k.val < 6 then fullShare.right else fullShare) f) : sProp 𝕄) := by
  rw [sep8]
  iintro ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

end Cert.KernelIdeal.Body
-- ==== Proof.Slots.lean ====
/-
  The scratch buffers cut into their slots, and put together again.
-/
module

public import proofs.«01_k».proof.Proof.Ends

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (CX : Dev nD → Bool → (h : Ch) → Vec F (sh h) .bf16) (c : Dev nD)

theorem sep6 (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide), bigSepL_cons_cons, bigSepL_cons_cons, bigSepL_cons_cons, bigSepL_cons_cons,
    bigSepL_cons_cons, bigSepL_singleton]
  rfl

theorem sepCh (Φ : Ch → sProp 𝕄) :
    bigSep Finset.univ Φ = iprop((bigSep Finset.univ fun j : Fin 3 => Φ (.inl j)) ∗ bigSep Finset.univ fun j : Fin 6 => Φ (.inr j)) :=
  BI.bigSep_univ_sum Φ

theorem bigs_mono {T : Type} [Fintype T] {Φ Ψ : T → sProp 𝕄} (h : ∀ t, Φ t ⊢ Ψ t) : bigSep Finset.univ Φ ⊢ (bigSep Finset.univ Ψ : sProp 𝕄) :=
  bigSep_mono fun t _ => h t

/-! ## A buffer and a family of boxes that tile it -/

section Family

variable {s : Shape} (M : Memref sig .tc .vmem s .bf16) {T : Type} [Fintype T] [DecidableEq T] (r : T → Rect s)
  (hd : ∀ t t', t ≠ t' → Disjoint (r t).set (r t').set) (hcov : ∀ i : s.Idx, ∃ t, i ∈ (r t).set) (hw : M.view.set = Finset.univ)

include hcov in
theorem cover_set : M.view.set = (Finset.univ : Finset T).biUnion fun t => (M.view.slice (r t)).set := by
  ext i; constructor
  · intro hi
    rw [View.set, Finset.mem_map] at hi
    obtain ⟨x, -, rfl⟩ := hi
    obtain ⟨t, hx⟩ := hcov x
    exact Finset.mem_biUnion.mpr ⟨t, Finset.mem_univ _, by rw [View.set_slice]; exact Finset.mem_map_of_mem _ hx⟩
  · intro hi
    obtain ⟨t, -, hi⟩ := Finset.mem_biUnion.mp hi
    exact View.set_slice_subset _ _ hi

include hd in
theorem disj_set (t t' : T) (h : t ≠ t') : Disjoint (M.view.slice (r t)).set (M.view.slice (r t')).set := by
  rw [View.set_slice, View.set_slice]; exact (Finset.disjoint_map _).mpr (hd t t' h)

include hd hcov hw in
theorem cut (f : Buf (Elt F) (M.view.loc (c : Thread nD τ))) :
    (M.view.loc (c : Thread nD τ) ↦{fullShare} f : sProp 𝕄)
      = bigSep Finset.univ fun t => M.view.loc (c : Thread nD τ) ↦[(M.view.slice (r t)).set]{fullShare} f := by
  rw [show (Finset.univ : Finset (Idx (M.view.loc (c : Thread nD τ)))) = _ from hw.symm.trans (cover_set M r hcov)]
  exact pointsTo_biUnion _ _ fun t _ t' _ h => disj_set M r hd t t' h

include hd hcov hw in
theorem close :
    (bigSep Finset.univ fun t => iprop(∃ f : Buf (Elt F) (M.view.loc (c : Thread nD τ)), M.view.loc (c : Thread nD τ) ↦[(M.view.slice (r t)).set]{fullShare} f))
      ⊢ (iprop(∃ f : Buf (Elt F) (M.view.loc (c : Thread nD τ)), M.view.loc (c : Thread nD τ) ↦{fullShare} f) : sProp 𝕄) := by
  haveI : Nonempty (Buf (Elt F) (M.view.loc (c : Thread nD τ))) := ⟨fun _ => Classical.arbitrary _⟩
  iintro H
  ihave H' := (BI.bigSep_exists_pi Finset.univ (fun (t : T) (f : Buf (Elt F) (M.view.loc (c : Thread nD τ))) =>
    (M.view.loc (c : Thread nD τ) ↦[(M.view.slice (r t)).set]{fullShare} f : sProp 𝕄))) $$ H
  icases H' with ⟨%fs, H⟩
  ihave H' := (pointsTo_biUnion_join Finset.univ (fun t => (M.view.slice (r t)).set) fs (Classical.arbitrary _)
    fun t _ t' _ h => disj_set M r hd t t' h) $$ H
  icases H' with ⟨%g, -, H⟩
  iexists g
  rw [show (Finset.univ : Finset (Idx (M.view.loc (c : Thread nD τ)))) = _ from hw.symm.trans (cover_set M r hcov)]
  iexact H

end Family

theorem disj3 (t t' : Fin 3) (h : t ≠ t') : Disjoint (rect3 t).set (rect3 t').set :=
  Rect.unit_disjoint (0 : Fin 3) (by
    show t.val + 1 ≤ t'.val ∨ t'.val + 1 ≤ t.val
    have := Fin.val_ne_of_ne h; omega)
theorem disj8 (t t' : Fin 8) (h : t ≠ t') : Disjoint (rect8 t).set (rect8 t').set :=
  Rect.unit_disjoint (0 : Fin 3) (by
    show t.val + 1 ≤ t'.val ∨ t'.val + 1 ≤ t.val
    have := Fin.val_ne_of_ne h; omega)
theorem cov3 (i : S3x256x1024.Idx) : ∃ t, i ∈ (rect3 t).set := by
  refine ⟨i (0 : Fin 3), Rect.mem_set_unit.mpr fun a => ?_⟩
  match a with
  | ⟨0, _⟩ => exact ⟨Nat.le_refl _, Nat.lt_succ_self _⟩
  | ⟨1, _⟩ => exact ⟨Nat.zero_le _, by show (i (1 : Fin 3)).val < 0 + 256; have := (i (1 : Fin 3)).isLt; rw [Nat.zero_add]; exact this⟩
  | ⟨2, _⟩ => exact ⟨Nat.zero_le _, by show (i (2 : Fin 3)).val < 0 + 1024; have := (i (2 : Fin 3)).isLt; rw [Nat.zero_add]; exact this⟩
theorem cov8 (i : S8x128x1024.Idx) : ∃ t, i ∈ (rect8 t).set := by
  refine ⟨i (0 : Fin 3), Rect.mem_set_unit.mpr fun a => ?_⟩
  match a with
  | ⟨0, _⟩ => exact ⟨Nat.le_refl _, Nat.lt_succ_self _⟩
  | ⟨1, _⟩ => exact ⟨Nat.zero_le _, by show (i (1 : Fin 3)).val < 0 + 128; have := (i (1 : Fin 3)).isLt; rw [Nat.zero_add]; exact this⟩
  | ⟨2, _⟩ => exact ⟨Nat.zero_le _, by show (i (2 : Fin 3)).val < 0 + 1024; have := (i (2 : Fin 3)).isLt; rw [Nat.zero_add]; exact this⟩

/-! ## The slots -/

theorem set3 (M : Memref sig .tc .vmem S3x256x1024 .bf16) (k : Fin 3) : (slot3 M k).view.set = (M.view.slice (rect3 k)).set := View.set_reshape _ _
theorem set8 (M : Memref sig .tc .vmem S8x128x1024 .bf16) (k : Fin 8) : (slot8 M k).view.set = (M.view.slice (rect8 k)).set := View.set_reshape _ _

theorem cut3 (M : Memref sig .tc .vmem S3x256x1024 .bf16) (hw : M.view.set = Finset.univ) (f : Buf (Elt F) (M.view.loc (c : Thread nD τ))) :
    (M.view.loc (c : Thread nD τ) ↦{fullShare} f : sProp 𝕄) = bigSep Finset.univ fun k : Fin 3 => win c (slot3 M k) fullShare f := by
  rw [cut c M rect3 disj3 cov3 hw f]
  exact bigSep_congr fun k _ => by unfold win; rw [set3]
theorem cut8 (M : Memref sig .tc .vmem S8x128x1024 .bf16) (hw : M.view.set = Finset.univ) (f : Buf (Elt F) (M.view.loc (c : Thread nD τ))) :
    (M.view.loc (c : Thread nD τ) ↦{fullShare} f : sProp 𝕄) = bigSep Finset.univ fun k : Fin 8 => win c (slot8 M k) fullShare f := by
  rw [cut c M rect8 disj8 cov8 hw f]
  exact bigSep_congr fun k _ => by unfold win; rw [set8]
theorem close3 (M : Memref sig .tc .vmem S3x256x1024 .bf16) (hw : M.view.set = Finset.univ) :
    (bigSep Finset.univ fun k : Fin 3 => iprop(∃ f : Buf (Elt F) (M.view.loc (c : Thread nD τ)), win c (slot3 M k) fullShare f))
      ⊢ (iprop(∃ f : Buf (Elt F) (M.view.loc (c : Thread nD τ)), M.view.loc (c : Thread nD τ) ↦{fullShare} f) : sProp 𝕄) :=
  (Entails.of_eq (bigSep_congr fun k _ => by unfold win; rw [set3])).trans (close c M rect3 disj3 cov3 hw)
theorem close8 (M : Memref sig .tc .vmem S8x128x1024 .bf16) (hw : M.view.set = Finset.univ) :
    (bigSep Finset.univ fun k : Fin 8 => iprop(∃ f : Buf (Elt F) (M.view.loc (c : Thread nD τ)), win c (slot8 M k) fullShare f))
      ⊢ (iprop(∃ f : Buf (Elt F) (M.view.loc (c : Thread nD τ)), M.view.loc (c : Thread nD τ) ↦{fullShare} f) : sProp 𝕄) :=
  (Entails.of_eq (bigSep_congr fun k _ => by unfold win; rw [set8])).trans (close c M rect8 disj8 cov8 hw)

theorem owns_of_win {s : Shape} (M : Memref sig .tc .vmem s .bf16) (f : Buf (Elt F) (M.view.loc (c : Thread nD τ))) :
    win c M fullShare f ⊢ (iprop(∃ X, owns (c : Thread nD τ) M fullShare X) : sProp 𝕄) := by
  unfold owns
  iintro H
  iexists _; iexists f
  isplitr; · ipureintro; rfl
  iexact H
theorem landE_of (d : Bool) (h : Ch) (f : Buf (Elt F) ((landM d h).view.loc (c : Thread nD τ))) : win c (landM d h) fullShare f ⊢ landE c d h :=
  owns_of_win c (landM d h) f
theorem win_of_owns {s : Shape} (M : Memref sig .tc .vmem s .bf16) (q : PosShare TreeShare) (X : Vec F s .bf16) :
    owns (c : Thread nD τ) M q X ⊢ (iprop(∃ f : Buf (Elt F) (M.view.loc (c : Thread nD τ)), win c M q f) : sProp 𝕄) := by
  unfold owns
  iintro ⟨%f, -, H⟩
  iexists f; iexact H

/-- Two halves of a window, at whatever contents, are the window. -/
theorem unhalve {s : Shape} (M : Memref sig .tc .vmem s .bf16) :
    iprop((∃ f : Buf (Elt F) (M.view.loc (c : Thread nD τ)), win c M fullShare.left f) ∗ (∃ f : Buf (Elt F) (M.view.loc (c : Thread nD τ)), win c M fullShare.right f))
      ⊢ (iprop(∃ f : Buf (Elt F) (M.view.loc (c : Thread nD τ)), win c M fullShare f) : sProp 𝕄) := by
  iintro ⟨⟨%f, H⟩, ⟨%g, H'⟩⟩
  ihave #Hp := (pointsTo_agree (ℓ := M.view.loc (c : Thread nD τ)) (I := M.view.set) (J := M.view.set) (f := f) (g := g) (q₁ := fullShare.left) (q₂ := fullShare.right)) $$ [H H']
  · isplitl [H] <;> iassumption
  icases Hp with %hp
  iexists f
  iapply (pointsTo_share (PosShare.mem_left_op_right fullShare)).2
  isplitl [H]; · iexact H
  unfold win
  rw [pointsTo_congr (f := f) (g := g) fun i hi => (hp i (Finset.mem_inter.mpr ⟨hi, hi⟩)).1]
  iexact H'

theorem whole_rs (d : Bool) : (rsM d).view.set = Finset.univ := by cases d <;> exact View.set_whole _
theorem whole_sb (d : Bool) : (sbM d).view.set = Finset.univ := by cases d <;> exact View.set_whole _
theorem whole_ag (d : Bool) : (agM d).view.set = Finset.univ := by cases d <;> exact View.set_whole _

/-- What a device hands over for landing: all of one buffer and six slots of another. -/
theorem land_intro (d : Bool) (f : Buf (Elt F) ((rsM d).view.loc (c : Thread nD τ))) (g : Buf (Elt F) ((agM d).view.loc (c : Thread nD τ))) :
    iprop(((rsM d).view.loc (c : Thread nD τ) ↦{fullShare} f) ∗ ((agM d).view.loc (c : Thread nD τ) ↦{fullShare} g))
      ⊢ (iprop((bigSep Finset.univ fun h : Ch => landE c d h) ∗ win c (slot8 (agM d) 0) fullShare g ∗ win c (slot8 (agM d) 1) fullShare g) : sProp 𝕄) := by
  rw [cut3 c (rsM d) (whole_rs d) f, cut8 c (agM d) (whole_ag d) g, sep8, sepCh]
  iintro ⟨Hr, H0, H1, H2, H3, H4, H5, H6, H7⟩
  isplitl [Hr H2 H3 H4 H5 H6 H7]
  · isplitl [Hr]
    · iapply (bigs_mono fun (k : Fin 3) => landE_of c d (.inl k) f); iexact Hr
    rw [sep6]
    isplitl [H2]; · iapply (landE_of c d (.inr 0) g); iexact H2
    isplitl [H3]; · iapply (landE_of c d (.inr 1) g); iexact H3
    isplitl [H4]; · iapply (landE_of c d (.inr 2) g); iexact H4
    isplitl [H5]; · iapply (landE_of c d (.inr 3) g); iexact H5
    isplitl [H6]; · iapply (landE_of c d (.inr 4) g); iexact H6
    iapply (landE_of c d (.inr 5) g); iexact H7
  isplitl [H0] <;> iassumption

/-- What comes back of one direction once all has left: the sent buffer, and half of the first six slots. -/
theorem sent_back (d : Bool) :
    (bigSep Finset.univ fun h : Ch => sendPay CX c d h)
      ⊢ (iprop((∃ f : Buf (Elt F) ((sbM d).view.loc (c : Thread nD τ)), (sbM d).view.loc (c : Thread nD τ) ↦{fullShare} f)
          ∗ bigSep Finset.univ fun j : Fin 6 => iprop(∃ f : Buf (Elt F) ((agM d).view.loc (c : Thread nD τ)), win c (slot8 (agM d) (lo8 j)) fullShare.left f)) : sProp 𝕄) := by
  rw [sepCh]
  iintro ⟨H, H'⟩
  isplitl [H]
  · iapply (close3 c (sbM d) (whole_sb d))
    iapply (bigs_mono fun (k : Fin 3) => win_of_owns c (slot3 (sbM d) k) fullShare (CX c d (.inl k))); iexact H
  · iapply (bigs_mono fun (j : Fin 6) => win_of_owns c (slot8 (agM d) (lo8 j)) fullShare.left (CX c d (.inr j))); iexact H'

/-- The eight slots from the halves that came back and what stayed. -/
theorem slots_back (M : Memref sig .tc .vmem S8x128x1024 .bf16) (hw : M.view.set = Finset.univ) :
    iprop((bigSep Finset.univ fun j : Fin 6 => iprop(∃ f : Buf (Elt F) (M.view.loc (c : Thread nD τ)), win c (slot8 M (lo8 j)) fullShare.left f))
        ∗ (bigSep Finset.univ fun k : Fin 8 => iprop(∃ f : Buf (Elt F) (M.view.loc (c : Thread nD τ)), win c (slot8 M k) (if k.val < 6 then fullShare.right else fullShare) f)))
      ⊢ (iprop(∃ f : Buf (Elt F) (M.view.loc (c : Thread nD τ)), M.view.loc (c : Thread nD τ) ↦{fullShare} f) : sProp 𝕄) := by
  rw [sep8, sep6]
  refine BIBase.Entails.trans ?_ (close8 c M hw)
  rw [sep8]
  iintro ⟨⟨L0, L1, L2, L3, L4, L5⟩, R0, R1, R2, R3, R4, R5, R6, R7⟩
  isplitl [L0 R0]; · iapply (unhalve c (slot8 M 0)); isplitl [L0]; · iexact L0
                     iexact R0
  isplitl [L1 R1]; · iapply (unhalve c (slot8 M 1)); isplitl [L1]; · iexact L1
                     iexact R1
  isplitl [L2 R2]; · iapply (unhalve c (slot8 M 2)); isplitl [L2]; · iexact L2
                     iexact R2
  isplitl [L3 R3]; · iapply (unhalve c (slot8 M 3)); isplitl [L3]; · iexact L3
                     iexact R3
  isplitl [L4 R4]; · iapply (unhalve c (slot8 M 4)); isplitl [L4]; · iexact L4
                     iexact R4
  isplitl [L5 R5]; · iapply (unhalve c (slot8 M 5)); isplitl [L5]; · iexact L5
                     iexact R5
  isplitl [R6]; · iexact R6
  iexact R7

end Cert.KernelIdeal.Body
-- ==== Proof.Ghost.lean ====
/-
  The launch's ghost state: the cells allocated, the duties dealt around the ring, and the credit for what is owed.
-/
module

public import proofs.«01_k».proof.Proof.Slots

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (CX : Dev nD → Bool → (h : Ch) → Vec F (sh h) .bf16) (K : Dev nD × CellKind → ℕ) (c : Dev nD)

/-! ## Families indexed by cells -/

/-- A transfer's cell: sender's or receiver's. -/
abbrev XK : Type := Bool × Tr

theorem sepOpt (Φ : CellKind → sProp 𝕄) : bigSep Finset.univ Φ = iprop(Φ none ∗ bigSep Finset.univ fun x : XK => Φ (some x)) := by
  have h : (Finset.univ : Finset CellKind) = insert none (Finset.univ.map Function.Embedding.some) := by ext x; cases x <;> simp
  rw [h, bigSep_insert (by simp), bigSep_map]; rfl

theorem sepXK (Φ : XK → sProp 𝕄) :
    bigSep Finset.univ Φ = iprop((bigSep Finset.univ fun x : Tr => Φ (false, x)) ∗ bigSep Finset.univ fun x : Tr => Φ (true, x)) := by
  rw [bigSep_univ_prod, bigSep_univ_eq_bigSepL [false, true] (by decide) (by decide), bigSepL_cons_cons, bigSepL_singleton]; rfl

theorem sepTr (Φ : Tr → sProp 𝕄) :
    bigSep Finset.univ Φ = iprop((bigSep Finset.univ fun h : Ch => Φ (false, h)) ∗ bigSep Finset.univ fun h : Ch => Φ (true, h)) := by
  rw [bigSep_univ_prod, bigSep_univ_eq_bigSepL [false, true] (by decide) (by decide), bigSepL_cons_cons, bigSepL_singleton]; rfl

/-! ## The kernel's own semaphores -/

/-- The transfers' semaphores, by their cells. -/
abbrev osem (x : XK) : SemLoc sig := .dma (xsem x.1 x.2.1 x.2.2)

theorem ownSemFacts : Pipeline.OwnSemFacts spec0 osem := by decide

theorem ownSems0_eq : (Pipeline.ownSems0 (Ix := Unit) (Name := ℕ) (U := UU) (Lvl := ℕ) (Val := Elt F) (τ := τ) osem c : sProp 𝕄)
    = bigSep Finset.univ fun x : XK => semVal (kcell (c, some x)) 0 := rfl

theorem unscopedSems0_eq : (unscopedSems0 c : sProp 𝕄) = semVal (barCell c) 0 := by
  unfold unscopedSems0; rw [bigSep_eq_bigSepL_of_eq [SemLoc.reg barS] (by decide) (by decide)]; rfl

theorem sems0_eq :
    iprop(Pipeline.ownSems0 (Ix := Unit) (Name := ℕ) (U := UU) (Lvl := ℕ) (Val := Elt F) (τ := τ) osem c ∗ unscopedSems0 c)
      ⊢ (bigSep Finset.univ fun k : CellKind => semVal (kcell (c, k)) 0 : sProp 𝕄) := by
  rw [ownSems0_eq, unscopedSems0_eq, sepOpt]
  iintro ⟨HX, HB⟩
  isplitl [HB]; · iexact HB
  iexact HX

/-! ## The cells' rounds funded -/

def ringCells : Finset (GSem nD τ sig) := Finset.univ.map ⟨kcell, kcell_injective⟩

/-- The duties of a device's own cells: its barrier's two, a transfer cell's one. -/
abbrev TokK : Type := Bool ⊕ XK
def tokK : TokK → CellKind × Bool | .inl e => (none, e) | .inr x => (some x, false)
theorem tokK_injective : Function.Injective tokK := by
  rintro (e | x) (e' | x') h
  · exact congrArg Sum.inl (congrArg Prod.snd h)
  · exact absurd (congrArg Prod.fst h) (by simp [tokK])
  · exact absurd (congrArg Prod.fst h) (by simp [tokK])
  · exact congrArg Sum.inr (Option.some.inj (congrArg Prod.fst h))
def tokOf (ck : Dev nD × TokK) : GSem nD τ sig × ℕ × Bool := (kcell (ck.1, (tokK ck.2).1), 0, (tokK ck.2).2)
theorem tokOf_injective : Function.Injective tokOf := by
  rintro ⟨c, k⟩ ⟨c', k'⟩ h
  have h1 := kcell_injective (congrArg Prod.fst h)
  have h2 : (tokK k).2 = (tokK k').2 := congrArg (fun x : GSem nD τ sig × ℕ × Bool => x.2.2) h
  have h3 : c = c' := congrArg Prod.fst h1
  have h4 : tokK k = tokK k' := Prod.ext (congrArg Prod.snd h1) h2
  subst h3; rw [tokK_injective h4]
def ringToks : Finset (GSem nD τ sig × ℕ × Bool) := Finset.univ.map ⟨tokOf, tokOf_injective⟩

/-- The launch's element: the staging cells' and the conversation's. -/
def u₀ : UU := (initOf (Pipeline.cells cfgs cellOf_inj) (Pipeline.launchToks cfgs cellOf_inj), initOf ringCells ringToks)

def toks : sProp 𝕄 :=
  iprop((dutyTok ER (barCell c) 0 false ∗ dutyTok ER (barCell c) 0 true)
    ∗ (bigSep Finset.univ fun x : Tr => dutyTok ER (sendCell c x.1 x.2) 0 false) ∗ bigSep Finset.univ fun x : Tr => dutyTok ER (recvCell c x.1 x.2) 0 false)

/-- What the launch's element gives a device. -/
def G : sProp 𝕄 :=
  iprop((bigSep Finset.univ fun k : CellKind => roundState ER (ringRd CX) (kcell (c, k)) 0)
    ∗ (bigSep Finset.univ fun k : CellKind => iprop(atPos ER (kcell (c, k)) 0 ∅ 0 ∗ reached ER (kcell (c, k)) 0)) ∗ toks c)

theorem toks_eq : (bigSep Finset.univ fun k : TokK => (dutyTok ER (kcell (c, (tokK k).1)) 0 (tokK k).2 : sProp 𝕄)) = toks c := by
  unfold toks
  rw [BI.bigSep_univ_sum, bigSep_univ_eq_bigSepL [false, true] (by decide) (by decide), bigSepL_cons_cons, bigSepL_singleton,
    sepXK (fun x => (dutyTok ER (kcell (c, (tokK (.inr x)).1)) 0 (tokK (.inr x)).2 : sProp 𝕄))]
  rfl

theorem fund_ring : BI.own (ER (initOf ringCells ringToks)) ⊢ (|==> bigSep Finset.univ (G CX) : sProp 𝕄) := by
  have hX (Φ : GSem nD τ sig → sProp 𝕄) : bigSep ringCells Φ = bigSep Finset.univ fun c : Dev nD => bigSep Finset.univ fun k : CellKind => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd CX) ringCells ringToks) $$ HX with ⟨Hst, Hr, Hat, Htok⟩
  imodintro
  ihave Hst' := (Entails.of_eq (hX fun g => roundState ER (ringRd CX) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc :
    iprop(Pipeline.ownSems0 (Ix := Unit) (Name := ℕ) (U := UU) (Lvl := ℕ) (Val := Elt F) (τ := τ) osem c ∗ unscopedSems0 c ∗ G CX c)
      ⊢ |={Set.univ}=> iprop((bigSep Finset.univ fun k : CellKind => iprop(∃ κ : ℕ, cellInv ER (ringRd CX) κ (kcell (c, k))))
          ∗ (bigSep Finset.univ fun k : CellKind => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellKind => semVal (kcell (c, k)) 0) ∗ bigSep Finset.univ fun k : CellKind => roundState ER (ringRd CX) (kcell (c, k)) 0)
      ⊢ (|={Set.univ}=> bigSep Finset.univ fun k => iprop(∃ κ : ℕ, cellInv ER (ringRd CX) κ (kcell (c, k))) : sProp 𝕄) from by
        rw [← bigSep_sep']
        exact (bigSep_mono fun k _ => (Rounds.body_intro ER (ringRd CX) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties dealt around the ring -/

/-- The invariants and marks of all cells. -/
def recs : sProp 𝕄 :=
  iprop((bigSep Finset.univ fun ck : Dev nD × CellKind => cellInv ER (ringRd CX) (K ck) (kcell ck))
    ∗ bigSep Finset.univ fun ck : Dev nD × CellKind => reached ER (kcell ck) 0)

instance recs_persistent : BI.Persistent (recs (F := F) CX K) := by unfold recs; infer_instance

/-- The duties a device pays. -/
def payToks : sProp 𝕄 :=
  iprop((dutyTok ER (barCell (left c)) 0 false ∗ dutyTok ER (barCell (right c)) 0 true) ∗ bigSep Finset.univ (sendToks c))

/-- Its positions at its own cells. -/
def atAll : sProp 𝕄 := bigSep Finset.univ fun k : CellKind => (atPos ER (kcell (c, k)) 0 ∅ 0 : sProp 𝕄)

theorem atAll_eq : (atAll c : sProp 𝕄)
    = iprop(atPos ER (barCell c) 0 ∅ 0 ∗ bigSep Finset.univ (sendPos c) ∗ bigSep Finset.univ fun x : Tr => atPos ER (recvCell c x.1 x.2) 0 ∅ 0) := by
  unfold atAll; rw [sepOpt, sepXK]; rfl

/-- What the launch's allocation leaves a device with. -/
def G' : sProp 𝕄 := iprop(∃ K, recs CX K ∗ atAll c ∗ payToks c)

/-- A device and a transfer, moved to the transfer's receiver. -/
def ringTr : Dev nD × Tr ≃ Dev nD × Tr where
  toFun p := (tgt p.2.1 p.1, p.2)
  invFun p := (src p.2.1 p.1, p.2)
  left_inv p := by obtain ⟨c, x⟩ := p; exact Prod.ext (src_tgt x.1 c) rfl
  right_inv p := by obtain ⟨c, x⟩ := p; exact Prod.ext (tgt_src x.1 c) rfl

theorem recv_around : (bigSep Finset.univ fun c : Dev nD => bigSep Finset.univ fun x : Tr => (dutyTok ER (recvCell c x.1 x.2) 0 false : sProp 𝕄))
    = bigSep Finset.univ fun c : Dev nD => bigSep Finset.univ fun x : Tr => (dutyTok ER (recvCell (tgt x.1 c) x.1 x.2) 0 false : sProp 𝕄) := by
  rw [← bigSep_univ_prod (fun p : Dev nD × Tr => (dutyTok ER (recvCell p.1 p.2.1 p.2.2) 0 false : sProp 𝕄)),
    bigSep_univ_equiv ringTr (fun p : Dev nD × Tr => (dutyTok ER (recvCell p.1 p.2.1 p.2.2) 0 false : sProp 𝕄)), bigSep_univ_prod]
  rfl

theorem toks_around : (bigSep Finset.univ fun c : Dev nD => (toks c : sProp 𝕄)) ⊢ bigSep Finset.univ fun c : Dev nD => payToks c := by
  unfold toks payToks sendToks
  simp only [bigSep_sep']
  rw [bigSep_univ_equiv (ring true) (fun c : Dev nD => (dutyTok ER (barCell c) 0 false : sProp 𝕄)),
    bigSep_univ_equiv (ring false) (fun c : Dev nD => (dutyTok ER (barCell c) 0 true : sProp 𝕄)), recv_around]
  iintro ⟨⟨H1, H2⟩, H3, H4⟩
  isplitl [H1 H2]
  · isplitl [H1]; · iexact H1
    iexact H2
  isplitl [H3]; · iexact H3
  iexact H4

theorem with_persistent {T : Type} [DecidableEq T] {S : Finset T} {R : sProp 𝕄} [BI.Persistent R] {Φ Ψ : T → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro : iprop(recs CX K ∗ (atAll c ∗ payToks c)) ⊢ G' CX c := by
  unfold G'
  iintro ⟨H, H2⟩
  iexists K
  isplitl [H]; · iexact H
  iexact H2

theorem regroup :
    (bigSep Finset.univ fun c : Dev nD => iprop((bigSep Finset.univ fun k : CellKind => iprop(∃ κ : ℕ, cellInv ER (ringRd CX) κ (kcell (c, k))))
          ∗ (bigSep Finset.univ fun k : CellKind => iprop(atPos ER (kcell (c, k)) 0 ∅ 0 ∗ reached ER (kcell (c, k)) 0)) ∗ toks c) : sProp 𝕄)
      ⊢ bigSep Finset.univ (G' CX) := by
  rw [bigSep_sep', bigSep_sep', ← bigSep_univ_prod (fun ck : Dev nD × CellKind => iprop(∃ κ : ℕ, cellInv ER (ringRd CX) κ (kcell ck))),
    bigSep_congr (s := Finset.univ) (fun (c : Dev nD) _ => bigSep_sep' Finset.univ (fun k : CellKind => (atPos ER (kcell (c, k)) 0 ∅ 0 : sProp 𝕄)) (fun k => reached ER (kcell (c, k)) 0)),
    bigSep_sep', ← bigSep_univ_prod (fun ck : Dev nD × CellKind => (reached ER (kcell ck) 0 : sProp 𝕄))]
  iintro ⟨HI, ⟨Hat, #HR⟩, Htok⟩
  ihave HK := (BI.bigSep_exists_pi Finset.univ (fun (ck : Dev nD × CellKind) (κ : ℕ) => (cellInv ER (ringRd CX) κ (kcell ck) : sProp 𝕄))) $$ HI
  icases HK with ⟨%K, #HI⟩
  ihave Htk := (toks_around (F := F)) $$ Htok
  iapply (with_persistent (R := recs CX K) fun c _ => ghost_intro CX K c)
  isplitr
  · unfold recs; isplitl; · iexact HI
    iexact HR
  · rw [bigSep_sep']
    isplitl [Hat]; · iexact Hat
    iexact Htk

/-- All devices' cells allocated, and what each pays with dealt out. -/
theorem glob : (bigSep Finset.univ fun c => iprop(Pipeline.ownSems0 (Ix := Unit) (Name := ℕ) (U := UU) (Lvl := ℕ) (Val := Elt F) (τ := τ) osem c ∗ unscopedSems0 c ∗ G CX c) : sProp 𝕄)
    ⊢ |={Set.univ}=> bigSep Finset.univ (G' CX) :=
  ((bigSep_mono fun c _ => core_alloc CX c).trans (bigSep_fupd _ _)).trans (BI.fupd_mono (regroup CX))

/-! ## The credit at launch -/

theorem tgt_eq_iff (d : Bool) (a b : Dev nD) : tgt d a = b ↔ a = src d b :=
  ⟨fun h => by rw [← h, src_tgt], fun h => by rw [h, tgt_src]⟩

theorem xCell_inj {b : Bool} {c c' : Dev nD} {x x' : Tr} (h : xCell b c x.1 x.2 = xCell b c' x'.1 x'.2) : c = c' ∧ x = x' := by
  have h1 := kcell_injective (a₁ := (c, some (b, x))) (a₂ := (c', some (b, x'))) h
  have h2 : (some (b, x) : CellKind) = some (b, x') := congrArg Prod.snd h1
  exact ⟨congrArg Prod.fst h1, congrArg Prod.snd (Option.some.inj h2)⟩
theorem bar_ne_x (b : Bool) (c c' : Dev nD) (d : Bool) (h : Ch) : barCell c ≠ xCell b c' d h := fun e => by
  have h1 := kcell_injective (a₁ := (c, none)) (a₂ := (c', some (b, d, h))) e
  exact absurd (congrArg Prod.snd h1) (by simp)
theorem bar_inj {a b : Dev nD} (h : barCell a = barCell b) : a = b :=
  congrArg Prod.fst (kcell_injective (a₁ := (a, none)) (a₂ := (b, none)) h)

theorem debt_recv (d : Dev nD) (x : Tr) : debt d 0 (recvCell c x.1 x.2) () = if d = src x.1 c then amt x.2 else 0 := by
  unfold debt
  rw [from_zero, Finset.sum_apply, Finsupp.finset_sum_apply, Finset.sum_eq_single x]
  · rw [tallyAt_apply]
    by_cases h : d = src x.1 c
    · rw [if_pos h, if_pos ⟨by rw [(tgt_eq_iff x.1 d c).mpr h], rfl⟩]
    · rw [if_neg h, if_neg fun e => h ((tgt_eq_iff x.1 d c).mp (xCell_inj e.1).1.symm)]
  · intro y _ hy
    rw [tallyAt_apply, if_neg fun e => hy (xCell_inj e.1).2.symm]
  · exact fun h => absurd (Finset.mem_univ _) h
theorem debt_bar (d : Dev nD) : debt d 0 (barCell c) () = 0 := by
  by_contra h
  obtain ⟨x, -, hx⟩ := debt_pos (c := d) (s := 0) (g := barCell c) (u := ()) (Nat.pos_of_ne_zero h)
  exact bar_ne_x _ _ _ _ _ hx

theorem owed_recv (d : Dev nD) (x : Tr) : O₀ d (recvCell c x.1 x.2) () = if d = src x.1 c then amt x.2 else 0 := by
  unfold O₀ O₁
  rw [Pi.add_apply, Finsupp.add_apply, Pi.add_apply, Finsupp.add_apply, debt_recv, tallyAt_ne_cell (bar_ne_x _ _ _ _ _).symm,
    tallyAt_ne_cell (bar_ne_x _ _ _ _ _).symm, Finsupp.zero_apply, Nat.add_zero, Nat.add_zero]
theorem owed_bar (d : Dev nD) : O₀ d (barCell c) () = (if d = left c then 1 else 0) + if d = right c then 1 else 0 := by
  unfold O₀ O₁
  rw [Pi.add_apply, Finsupp.add_apply, Pi.add_apply, Finsupp.add_apply, debt_bar, tallyAt_apply, tallyAt_apply, Nat.zero_add]
  congr 1
  · by_cases h : d = left c
    · rw [if_pos h, if_pos ⟨by rw [h, right_left], rfl⟩]
    · rw [if_neg h, if_neg fun e => h (by rw [bar_inj e.1, left_right])]
  · by_cases h : d = right c
    · rw [if_pos h, if_pos ⟨by rw [h, left_right], rfl⟩]
    · rw [if_neg h, if_neg fun e => h (by rw [bar_inj e.1, right_left])]

theorem launch_bar : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (left c) fun _ => 1, Finset.sum_ite_eq' Finset.univ (right c) fun _ => 1, if_pos (Finset.mem_univ _), if_pos (Finset.mem_univ _)]
theorem launch_recv (x : Tr) :
    tallyOn (recvCell c x.1 x.2) (launchCredit (Pipeline.owing O₀) 0 (recvCell c x.1 x.2)) = (tallyAt (recvCell c x.1 x.2) () (amt x.2) : CellTallies nD τ sig Unit) := by
  unfold tallyAt; refine congrArg _ (Finsupp.ext fun u => ?_); cases u
  rw [Pipeline.launchCredit_owing, Finsupp.single_eq_same, Finset.sum_congr rfl fun d _ => owed_recv c d x, Finset.sum_ite_eq' Finset.univ (src x.1 c) fun _ => amt x.2,
    if_pos (Finset.mem_univ _)]

theorem creds : (Pipeline.launchCred O₀ c : sProp 𝕄)
    ⊢ iprop(cred (tallyAt (barCell c) () 2) ∗ bigSep Finset.univ fun x : Tr => cred (tallyAt (recvCell c x.1 x.2) () (amt x.2))) := by
  unfold Pipeline.launchCred
  have h := bigSep_subset (M := MT nD τ sig Unit (Elt F) ℕ UU ℕ) (Finset.subset_univ (Finset.univ.map ⟨csem, csem_injective⟩))
    (Φ := fun sm : SemLoc sig => (cred (tallyOn ((c.tc : Thread nD τ), sm) (launchCredit (Pipeline.owing O₀) 0 ((c.tc : Thread nD τ), sm))) : sProp 𝕄))
  refine h.trans ?_
  rw [bigSep_map, sepOpt, sepXK]
  refine sep_mono (Entails.of_eq (congrArg cred (launch_bar c))) (sep_elim_right.trans ?_)
  exact bigSep_mono fun x _ => Entails.of_eq (congrArg cred (launch_recv c x))

end Cert.KernelIdeal.Body
-- ==== Proof.Run1.lean ====
/-
  The body's run: what it starts from and ends with, and its first stretch.
-/
module

public import proofs.«01_k».proof.Proof.Fill

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

/-- What came around the ring stays in its slots; of the ones that were sent on, the half that was not lent. -/
def around (c : Dev nD) : sProp 𝕄 :=
  iprop((bigSep Finset.univ fun k : Fin 3 => iprop(∃ f, win c (slot3 (Memref.whole cc0_scratch4) k) fullShare f))
    ∗ (bigSep Finset.univ fun k : Fin 3 => iprop(∃ f, win c (slot3 (Memref.whole cc0_scratch5) k) fullShare f))
    ∗ (bigSep Finset.univ fun k : Fin 8 => iprop(∃ f, win c (slot8 (Memref.whole cc0_scratch8) k) (if k.val < 6 then fullShare.right else fullShare) f))
    ∗ (bigSep Finset.univ fun k : Fin 8 => iprop(∃ f, win c (slot8 (Memref.whole cc0_scratch9) k) (if k.val < 6 then fullShare.right else fullShare) f)))

/-- From the staged blocks, the scratch and what the launch gave, the body runs to the same blocks, the result, and what came around
    the ring. -/
abbrev Runs (c : Dev nD) : Prop :=
  ∀ (fr : Buf (Elt F) ((c : Thread nD τ).loc cc0_stg5_0)) (gc : Buf (Elt F) ((c : Thread nD τ).loc cc0_scratch0))
    (gs : Buf (Elt F) ((c : Thread nD τ).loc cc0_scratch1)) (gk : Buf (Elt F) ((c : Thread nD τ).loc cc0_scratch2))
    (gv : Buf (Elt F) ((c : Thread nD τ).loc cc0_scratch3)) (u v : Fin 3 → Buf (Elt F) ((c : Thread nD τ).loc cc0_scratch6))
    (u' v' : Fin 2 → Buf (Elt F) ((c : Thread nD τ).loc cc0_scratch8)) (Q : PUnit → sProp 𝕄),
    iprop(Hello (CX I) K c
        ∗ pts c cc0_stg0_0 (I c).x ∗ pts c cc0_stg1_0 (I c).wq ∗ pts c cc0_stg2_0 (I c).wk ∗ pts c cc0_stg3_0 (I c).wv ∗ pts c cc0_stg4_0 (I c).wo
        ∗ pts c cc0_stg5_0 fr ∗ pts c cc0_scratch0 gc ∗ pts c cc0_scratch1 gs ∗ pts c cc0_scratch2 gk ∗ pts c cc0_scratch3 gv
        ∗ win c (s3 (Memref.whole cc0_scratch6) 0 inb_S3x256x1024_S1x256x1024_0_0_0) fullShare (u 0)
        ∗ win c (s3 (Memref.whole cc0_scratch6) 1 inb_S3x256x1024_S1x256x1024_1_0_0) fullShare (u 1)
        ∗ win c (s3 (Memref.whole cc0_scratch6) 2 inb_S3x256x1024_S1x256x1024_2_0_0) fullShare (u 2)
        ∗ win c (s3 (Memref.whole cc0_scratch7) 0 inb_S3x256x1024_S1x256x1024_0_0_0) fullShare (v 0)
        ∗ win c (s3 (Memref.whole cc0_scratch7) 1 inb_S3x256x1024_S1x256x1024_1_0_0) fullShare (v 1)
        ∗ win c (s3 (Memref.whole cc0_scratch7) 2 inb_S3x256x1024_S1x256x1024_2_0_0) fullShare (v 2)
        ∗ win c (s8 (Memref.whole cc0_scratch8) 0 inb_S8x128x1024_S1x128x1024_0_0_0) fullShare (u' 0)
        ∗ win c (s8 (Memref.whole cc0_scratch8) 1 inb_S8x128x1024_S1x128x1024_1_0_0) fullShare (u' 1)
        ∗ win c (s8 (Memref.whole cc0_scratch9) 0 inb_S8x128x1024_S1x128x1024_0_0_0) fullShare (v' 0)
        ∗ win c (s8 (Memref.whole cc0_scratch9) 1 inb_S8x128x1024_S1x128x1024_1_0_0) fullShare (v' 1)
        ∗ (iprop(Bye (CX I) K c 18
            ∗ pts c cc0_stg0_0 (I c).x ∗ pts c cc0_stg1_0 (I c).wq ∗ pts c cc0_stg2_0 (I c).wk ∗ pts c cc0_stg3_0 (I c).wv ∗ pts c cc0_stg4_0 (I c).wo
            ∗ pts c cc0_stg5_0 (outT I c)
            ∗ (∃ f, pts c cc0_scratch0 f) ∗ (∃ f, pts c cc0_scratch1 f) ∗ (∃ f, pts c cc0_scratch2 f) ∗ (∃ f, pts c cc0_scratch3 f)
            ∗ around c) -∗ Q ⟨⟩))
      ⊢ wp frame (wpE (defs₀ (F := F)) 𝒱₀ (c : Thread nD τ) none) Set.univ (bodyAt (F := F)) Q

set_option maxHeartbeats 4000000
/-- The handshake, the tables, and the chunk of the device's left neighbour. -/
def run1 (c : Dev nD) : Σ' (G : Prop), G → Runs I K c := by
  sl_stretch
  intro fr gc gs gk gv u v u' v' Q
  unfold bodyAt pts
  iintro ⟨Hhello, Hx, Hq, Hk, Hv, Ho, Hr, Hcos, Hsin, Hkb, Hvb, Hs0, Hs1, Hs2, Ht0, Ht1, Ht2, Ha0, Ha1, Hb0, Hb1, HQ⟩
  rw [cc0__fused_body_eq_skeleton]
  unfold cc0__fused_body_skel k0_part48
  set_option sl_exec.stopBefore "k0_part1" in
  sl_exec_parts
  rw [wp_bind]
  iapply (part1_wp (CX I) K c)
  isplitl [Hhello]; · iexact Hhello
  iintro Ht
  set_option sl_exec.stopBefore "k0_part17" in
  sl_exec_parts
  sl_seam

end Cert.KernelIdeal.Body
-- ==== Proof.Val1.lean ====
/-
  What the first stretch computed: the tables, the keys, the values, and the first chunk.
-/
module

public import proofs.«01_k».proof.Proof.Run1

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (c : Dev nD)

set_option maxHeartbeats 1000000

theorem cos1  : run1.sl.Hcos_1 (F := F) = [⟨Rect.unit (s := S2048x128) ![0, 0] S2048x128.size inb_S2048x128_S2048x128_0_0, cosT⟩] := rfl

theorem sin1  : run1.sl.Hsin_1 (F := F) = [⟨Rect.unit (s := S2048x128) ![0, 0] S2048x128.size inb_S2048x128_S2048x128_0_0, sinT⟩] := rfl

theorem cosBuf  : (Memref.whole cc0_scratch0).view.writes (Elt F) (Memref.whole cc0_scratch0).view.junk run1.sl.Hcos_1 = cosT (F := F) := by
  rw [cos1]; exact scratch0_write (⟨0, by decide⟩ : Dev nD) _ _ _

theorem sinBuf  : (Memref.whole cc0_scratch1).view.writes (Elt F) (Memref.whole cc0_scratch1).view.junk run1.sl.Hsin_1 = sinT (F := F) := by
  rw [sin1]; exact scratch1_write (⟨0, by decide⟩ : Dev nD) _ _ _

theorem cosLoad  : run1.sl.v106 = cosT (F := F) :=
  (congrArg (fun L => (Memref.whole cc0_scratch0).view.readCov L _) cos1).trans (whole_load (F := F) (Memref.whole cc0_scratch0).view _ _ cosT)

theorem sinLoad  : run1.sl.v107 = sinT (F := F) :=
  (congrArg (fun L => (Memref.whole cc0_scratch1).view.readCov L _) sin1).trans (whole_load (F := F) (Memref.whole cc0_scratch1).view _ _ sinT)

theorem keys1 : run1.sl.Hkb_4 I c = fills (keyCols (I c)) := by
  refine Eq.trans (b := fills fun j => k0_pay15 rotM run1.sl.v106 run1.sl.v107 (box (I c).x ![0, 0] S2048x1024.size inb_S2048x1024_S2048x1024_0_0) (cols (I c).wk j)) rfl ?_
  rw [cosLoad, sinLoad, box_whole (I c).x inb_S2048x1024_S2048x1024_0_0]; rfl

theorem vals1 : run1.sl.Hvb_4 I c = fills (valCols (I c)) := by
  refine Eq.trans (b := fills fun j => k0_pay14 (box (I c).x ![0, 0] S2048x1024.size inb_S2048x1024_S2048x1024_0_0) (cols (I c).wv j)) rfl ?_
  rw [box_whole (I c).x inb_S2048x1024_S2048x1024_0_0]; rfl

theorem keyBuf (f) : @Eq (Buf (Elt F) ((c : Thread nD τ).loc cc0_scratch2)) ((Memref.whole cc0_scratch2).view.writes (Elt F) f (run1.sl.Hkb_4 I c)) (keyT (I c)) := by
  rw [keys1]; exact scratch2_write c f (keyCols (I c))

theorem valBuf (f) : @Eq (Buf (Elt F) ((c : Thread nD τ).loc cc0_scratch3)) ((Memref.whole cc0_scratch3).view.writes (Elt F) f (run1.sl.Hvb_4 I c)) (valT (I c)) := by
  rw [vals1]; exact scratch3_write c f (valCols (I c))

/-- The part of the left neighbour's chunk. -/
theorem chunk1 : run1.sl.v389 I c = part (I c) (left c) := by
  refine Eq.trans (b := rowsPart (I c) ((Memref.whole cc0_stg0_0).view.readAt (Elt F) (Rect.unit (s := S2048x1024) (k0_off1 c) S512x1024.size (k0_off1_inb c)).toLoadRect (I c).x) ((Memref.whole cc0_scratch0).view.readAt (Elt F) (Rect.unit (s := S2048x128) (k0_off2 c) S512x128.size (k0_off2_inb c)).toLoadRect ((Memref.whole cc0_scratch0).view.writes (Elt F) (Memref.whole cc0_scratch0).view.junk run1.sl.Hcos_1)) ((Memref.whole cc0_scratch1).view.readAt (Elt F) (Rect.unit (s := S2048x128) (k0_off2 c) S512x128.size (k0_off2_inb c)).toLoadRect ((Memref.whole cc0_scratch1).view.writes (Elt F) (Memref.whole cc0_scratch1).view.junk run1.sl.Hsin_1))
    (fun h => (Memref.whole cc0_scratch2).view.readCov (run1.sl.Hkb_4 I c) (Rect.unit (s := S2048x1024) ![0, 128 * h.val] S2048x128.size (inb_head h)).toLoadRect)
    (fun h => (Memref.whole cc0_scratch3).view.readCov (run1.sl.Hvb_4 I c) (Rect.unit (s := S2048x1024) ![0, 128 * h.val] S2048x128.size (inb_head h)).toLoadRect)) rfl ?_
  exact part_read (I c) (left c) (k0_off1_eq c) (k0_off2_eq c) _ _ _ _ cosBuf sinBuf _ _
    (fun n => (congrArg (fun L => (Memref.whole cc0_scratch2).view.readCov L _) (keys1 I c)).trans (filled_load _ _ _))
    (fun n => (congrArg (fun L => (Memref.whole cc0_scratch3).view.readCov L _) (vals1 I c)).trans (filled_load _ _ _))

end Cert.KernelIdeal.Body
-- ==== Proof.Run2.lean ====
/-
  The body's run, second stretch: the first chunk leaves clockwise; the right neighbour's chunk.
-/
module

public import proofs.«01_k».proof.Proof.Val1

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

theorem slot1 (c : Dev nD) (u) : (s3 (Memref.whole cc0_scratch6) 0 inb_S3x256x1024_S1x256x1024_0_0_0).view.read (Elt F) (run1.sl.Hs0_w1 I c u) = sumV I false 0 c :=
  (stored3 (Memref.whole cc0_scratch6) 0 _ (u 0) (run1.sl.v393 I c) _).trans
    (congrArg (fun A => truncf .bf16 (half false A) bitsLt_bf16_f32) (chunk1 I c))

/-- The chunk of the right neighbour. -/
def run2 (c : Dev nD) : Σ' (G : Prop), G → (run1 I K c).1 := by
  sl_stretch
  sl_resume
  ihave Hcos := (restate c (b := cc0_scratch0) cosBuf) $$ Hcos
  ihave Hsin := (restate c (b := cc0_scratch1) sinBuf) $$ Hsin
  ihave Hkb := (restate c (b := cc0_scratch2) (keyBuf I c gk)) $$ Hkb
  ihave Hvb := (restate c (b := cc0_scratch3) (valBuf I c gv)) $$ Hvb
  ihave Hr := (put_rows c fr (left c) (k0_off1_eq c) _ _ _ (chunk1 I c)) $$ Hr
  icases Hr with ⟨%fr1, %h1, Hr⟩
  iapply (talk_send (CX I) K c _ false (.inl 0) 0 0 rfl (Fin.ext (k0_dev3_eq c))) $$ [Ht Hs0]
  · isplitl [Ht]; · iexact Ht
    iapply (pay_sb c I false 0 _ (slot1 I c u)); iexact Hs0
  iintro Ht
  sl_exec_parts
  sl_seam

end Cert.KernelIdeal.Body
-- ==== Proof.Val2.lean ====
/-
  What the second stretch computed: the right neighbour's chunk.
-/
module

public import proofs.«01_k».proof.Proof.Run2

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (c : Dev nD)

set_option maxHeartbeats 4000000

/-- Two heads' columns of the tables, as the body loads them. -/
def keyHead (h : Fin 8) : Vec F S2048x128 .bf16 :=
  (Memref.whole cc0_scratch2).view.readAt (Elt F) (Rect.unit (s := S2048x1024) ![0, 128 * h.val] S2048x128.size (inb_head h)).toLoadRect (keyT (I c))
def valHead (h : Fin 8) : Vec F S2048x128 .bf16 :=
  (Memref.whole cc0_scratch3).view.readAt (Elt F) (Rect.unit (s := S2048x1024) ![0, 128 * h.val] S2048x128.size (inb_head h)).toLoadRect (valT (I c))

/-- The right neighbour's chunk. -/
theorem chunk2 : run2.sl.v585 I c = part (I c) (right c) := by
  refine Eq.trans (b := rowsPart (I c) ((Memref.whole cc0_stg0_0).view.readAt (Elt F) (Rect.unit (s := S2048x1024) (k0_off3 c 1#32) S512x1024.size (k0_off3_inb c 0)).toLoadRect (I c).x) ((Memref.whole cc0_scratch0).view.readAt (Elt F) (Rect.unit (s := S2048x128) (k0_off4 c 1#32) S512x128.size (k0_off4_inb c 0)).toLoadRect cosT) ((Memref.whole cc0_scratch1).view.readAt (Elt F) (Rect.unit (s := S2048x128) (k0_off4 c 1#32) S512x128.size (k0_off4_inb c 0)).toLoadRect sinT)
    (keyHead I c) (valHead I c)) rfl ?_
  exact part_read (I c) (right c) ((k0_off3_eq c 0)) ((k0_off4_eq c 0)) _ _ _ _ rfl rfl _ _ (fun n => rfl) (fun n => rfl)

end Cert.KernelIdeal.Body
-- ==== Proof.Run3.lean ====
/-
  The body's run, third stretch: the second chunk leaves counter-clockwise; the opposite device's chunk.
-/
module

public import proofs.«01_k».proof.Proof.Val2

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

theorem slot2 (c : Dev nD) (v) : (s3 (Memref.whole cc0_scratch7) 0 inb_S3x256x1024_S1x256x1024_0_0_0).view.read (Elt F) (run2.sl.Ht0_w1 I c v) = sumV I true 0 c :=
  (stored3 (Memref.whole cc0_scratch7) 0 _ (v 0) _ shapeCasts_S256x1024_S1x256x1024).trans
    (congrArg (fun A => truncf .bf16 (half true A) bitsLt_bf16_f32) (chunk2 I c))

/-- The opposite device's chunk. -/
def run3 (c : Dev nD) : Σ' (G : Prop), G → (run2 I K c).1 := by
  sl_stretch
  sl_resume
  ihave Hr := (put_rows (o := k0_off3 c 1#32) c fr1 (right c) (k0_off3_eq c 0) (k0_off3_inb c 0) (run2.sl.v585 I c) _ (chunk2 I c)) $$ [Hr]
  · iexact Hr
  icases Hr with ⟨%fr2, %h2, Hr⟩
  iapply (talk_send (CX I) K c _ true (.inl 0) 1 0 rfl (Fin.ext (k0_dev4_eq c))) $$ [Ht Ht0]
  · isplitl [Ht]; · iexact Ht
    iapply (pay_sb c I true 0 _ (slot2 I c v)); iexact Ht0
  iintro Ht
  sl_exec_parts
  sl_seam

end Cert.KernelIdeal.Body
-- ==== Proof.Val3.lean ====
/-
  What the third stretch computed: the opposite device's chunk.
-/
module

public import proofs.«01_k».proof.Proof.Run3

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (c : Dev nD)

set_option maxHeartbeats 4000000

theorem opp_off (c : Dev nD) : k0_off3 c 2#32 = ![512 * (left (left c)).val, 0] :=
  (k0_off3_eq c 1).trans (congrArg (fun n => ![n, 0]) (show 512 * ((c.val + 1 + 1) % 4) = 512 * (((c.val + 3) % 4 + 3) % 4) by omega))

theorem opp_off4 (c : Dev nD) : k0_off4 c 2#32 = ![512 * (left (left c)).val, 0] :=
  (k0_off4_eq c 1).trans (congrArg (fun n => ![n, 0]) (show 512 * ((c.val + 1 + 1) % 4) = 512 * (((c.val + 3) % 4 + 3) % 4) by omega))

/-- The opposite device's chunk. -/
theorem chunk3 : run3.sl.v781 I c = part (I c) (left (left c)) := by
  refine Eq.trans (b := rowsPart (I c) ((Memref.whole cc0_stg0_0).view.readAt (Elt F) (Rect.unit (s := S2048x1024) (k0_off3 c 2#32) S512x1024.size (k0_off3_inb c 1)).toLoadRect (I c).x) ((Memref.whole cc0_scratch0).view.readAt (Elt F) (Rect.unit (s := S2048x128) (k0_off4 c 2#32) S512x128.size (k0_off4_inb c 1)).toLoadRect cosT) ((Memref.whole cc0_scratch1).view.readAt (Elt F) (Rect.unit (s := S2048x128) (k0_off4 c 2#32) S512x128.size (k0_off4_inb c 1)).toLoadRect sinT)
    (keyHead I c) (valHead I c)) rfl ?_
  exact part_read (I c) (left (left c)) ((opp_off c)) ((opp_off4 c)) _ _ _ _ rfl rfl _ _ (fun n => rfl) (fun n => rfl)

end Cert.KernelIdeal.Body
-- ==== Proof.Run4.lean ====
/-
  The body's run, fourth stretch: the first arrival from the left is added to the opposite chunk.
-/
module

public import proofs.«01_k».proof.Proof.Val3

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

/-- The second partial sum going clockwise. -/
def run4 (c : Dev nD) : Σ' (G : Prop), G → (run3 I K c).1 := by
  sl_stretch
  sl_resume
  ihave Hr := (put_rows (o := k0_off3 c 2#32) c fr2 (left (left c)) (opp_off c) (k0_off3_inb c 1) (run3.sl.v781 I c) _ (chunk3 I c)) $$ [Hr]
  · iexact Hr
  icases Hr with ⟨%fr3, %h3, Hr⟩
  iapply (talk_recv (CX I) K c false (.inl 0) 2 0 rfl (by decide) (land_credit false (.inl 0))) $$ Ht
  iintro ⟨Ht, Hc0⟩
  ihave Hc0 := (got_rs c I false 0) $$ Hc0
  icases Hc0 with ⟨%wHc0, %hwHc0, Hc0⟩
  ihave Hc0 := (show win c (slot3 (rsM false) 0) fullShare wHc0 ⊢ win c (s3 (Memref.whole cc0_scratch4) 0 inb_S3x256x1024_S1x256x1024_0_0_0) fullShare wHc0 from .rfl) $$ Hc0
  sl_exec_parts
  sl_seam

end Cert.KernelIdeal.Body
-- ==== Proof.Run5.lean ====
/-
  The body's run, fifth stretch: the sum leaves clockwise; the first arrival from the right.
-/
module

public import proofs.«01_k».proof.Proof.Run4

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

theorem slot4 (c : Dev nD) (u) (w) (hw : (slot3 (rsM false) 0).view.read (Elt F) w = sumV I false 0 (src false c)) :
    (s3 (Memref.whole cc0_scratch6) 1 inb_S3x256x1024_S1x256x1024_1_0_0).view.read (Elt F) (run4.sl.Hs1_w1 I c u w) = sumV I false 1 c :=
  (stored3 (Memref.whole cc0_scratch6) 1 _ (u 1) _ shapeCasts_S256x1024_S1x256x1024).trans
    (congrArg₂ (fun A B => truncf .bf16 (addf (extf .f32 A bitsLt_bf16_f32) (half false B)) bitsLt_bf16_f32) hw (chunk3 I c))

/-- The second partial sum going counter-clockwise. -/
def run5 (c : Dev nD) : Σ' (G : Prop), G → (run4 I K c).1 := by
  sl_stretch
  sl_resume
  iapply (talk_send (CX I) K c _ false (.inl 1) 2 1 rfl (Fin.ext (k0_dev5_eq c))) $$ [Ht Hs1]
  · isplitl [Ht]; · iexact Ht
    iapply (pay_sb c I false 1 _ (slot4 I c u wHc0 hwHc0)); iexact Hs1
  iintro Ht
  sl_exec_parts
  iapply (talk_recv (CX I) K c true (.inl 0) 3 1 rfl (by decide) (land_credit true (.inl 0))) $$ Ht
  iintro ⟨Ht, Hd0⟩
  ihave Hd0 := (got_rs c I true 0) $$ Hd0
  icases Hd0 with ⟨%wHd0, %hwHd0, Hd0⟩
  ihave Hd0 := (show win c (slot3 (rsM true) 0) fullShare wHd0 ⊢ win c (s3 (Memref.whole cc0_scratch5) 0 inb_S3x256x1024_S1x256x1024_0_0_0) fullShare wHd0 from .rfl) $$ Hd0
  sl_exec_parts
  sl_seam

end Cert.KernelIdeal.Body
-- ==== Proof.Run6.lean ====
/-
  The body's run, sixth stretch: the own chunk begins, the second arrival from the left.
-/
module

public import proofs.«01_k».proof.Proof.Run5

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

theorem opp_opp (c : Dev nD) : right (right c) = left (left c) :=
  Fin.ext (show ((c.val + 1) % 4 + 1) % 4 = ((c.val + 3) % 4 + 3) % 4 by omega)

theorem chunk3' (c : Dev nD) : run3.sl.v781 I c = part (I c) (right (right c)) :=
  (chunk3 I c).trans (congrArg (part (I c)) (opp_opp c).symm)

theorem slot5 (c : Dev nD) (v) (w) (hw : (slot3 (rsM true) 0).view.read (Elt F) w = sumV I true 0 (src true c)) :
    (s3 (Memref.whole cc0_scratch7) 1 inb_S3x256x1024_S1x256x1024_1_0_0).view.read (Elt F) (run5.sl.Ht1_w1 I c v w) = sumV I true 1 c :=
  (stored3 (Memref.whole cc0_scratch7) 1 _ (v 1) _ shapeCasts_S256x1024_S1x256x1024).trans
    (congrArg₂ (fun A B => truncf .bf16 (addf (extf .f32 A bitsLt_bf16_f32) (half true B)) bitsLt_bf16_f32) hw (chunk3' I c))

/-- The own chunk, to the third partial sum going clockwise. -/
def run6 (c : Dev nD) : Σ' (G : Prop), G → (run5 I K c).1 := by
  sl_stretch
  sl_resume
  iapply (talk_send (CX I) K c _ true (.inl 1) 3 2 rfl (Fin.ext (k0_dev6_eq c))) $$ [Ht Ht1]
  · isplitl [Ht]; · iexact Ht
    iapply (pay_sb c I true 1 _ (slot5 I c v wHd0 hwHd0)); iexact Ht1
  iintro Ht
  sl_exec_parts
  iapply (talk_recv (CX I) K c false (.inl 1) 4 2 rfl (by decide) (land_credit false (.inl 1))) $$ Ht
  iintro ⟨Ht, Hc1⟩
  ihave Hc1 := (got_rs c I false 1) $$ Hc1
  icases Hc1 with ⟨%wHc1, %hwHc1, Hc1⟩
  ihave Hc1 := (show win c (slot3 (rsM false) 1) fullShare wHc1 ⊢ win c (s3 (Memref.whole cc0_scratch4) 1 inb_S3x256x1024_S1x256x1024_1_0_0) fullShare wHc1 from .rfl) $$ Hc1
  sl_exec_parts
  sl_seam

end Cert.KernelIdeal.Body
-- ==== Proof.Run7.lean ====
/-
  The body's run, seventh stretch: the third partial sum leaves clockwise.
-/
module

public import proofs.«01_k».proof.Proof.Run6
public import proofs.«01_k».proof.Proof.Out

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

theorem back3_false (c : Dev nD) : back false 3 c = right c :=
  Fin.ext (show (((c.val + 3) % 4 + 3) % 4 + 3) % 4 = (c.val + 1) % 4 by omega)
theorem back3_true (c : Dev nD) : back true 3 c = left c :=
  Fin.ext (show (((c.val + 1) % 4 + 1) % 4 + 1) % 4 = (c.val + 3) % 4 by omega)
theorem right_ne (c : Dev nD) : right c ≠ left (left c) := by revert c; decide
theorem left_ne (c : Dev nD) : left c ≠ left (left c) := by revert c; decide
theorem left_ne_right (c : Dev nD) : left c ≠ right c := by revert c; decide

theorem slot6 (c : Dev nD) (u) (f) (w) (hf : rowsO f (right c) = part (I c) (right c)) (hw : (slot3 (rsM false) 1).view.read (Elt F) w = sumV I false 1 (src false c)) :
    (s3 (Memref.whole cc0_scratch6) 2 inb_S3x256x1024_S1x256x1024_2_0_0).view.read (Elt F) (run6.sl.Hs2_w1 c u f w) = sumV I false 2 c :=
  (stored3 (Memref.whole cc0_scratch6) 2 _ (u 2) _ shapeCasts_S256x1024_S1x256x1024).trans
    (congrArg₂ (fun A B => truncf .bf16 (addf (extf .f32 A bitsLt_bf16_f32) B) bitsLt_bf16_f32) hw
      ((half_load f (right c) false (k0_off7_eq c) _ _ _ hf).trans (congrArg (fun x => half false (part (I c) x)) (back3_false c).symm)))

/-- The third partial sum going counter-clockwise. -/
def run7 (c : Dev nD) : Σ' (G : Prop), G → (run6 I K c).1 := by
  sl_stretch
  sl_resume
  have hright : rowsO fr3 (right c) = part (I c) (right c) := (h3.2 _ (right_ne c)).trans h2.1
  have hleft : rowsO fr3 (left c) = part (I c) (left c) := (h3.2 _ (left_ne c)).trans ((h2.2 _ (left_ne_right c)).trans h1.1)
  iapply (talk_send (CX I) K c _ false (.inl 2) 4 3 rfl (Fin.ext (k0_dev7_eq c))) $$ [Ht Hs2]
  · isplitl [Ht]; · iexact Ht
    iapply (pay_sb c I false 2 _ (slot6 I c u fr3 wHc1 hright hwHc1)); iexact Hs2
  iintro Ht
  sl_exec_parts
  iapply (talk_recv (CX I) K c true (.inl 1) 5 3 rfl (by decide) (land_credit true (.inl 1))) $$ Ht
  iintro ⟨Ht, Hd1⟩
  ihave Hd1 := (got_rs c I true 1) $$ Hd1
  icases Hd1 with ⟨%wHd1, %hwHd1, Hd1⟩
  ihave Hd1 := (show win c (slot3 (rsM true) 1) fullShare wHd1 ⊢ win c (s3 (Memref.whole cc0_scratch5) 1 inb_S3x256x1024_S1x256x1024_1_0_0) fullShare wHd1 from .rfl) $$ Hd1
  sl_exec_parts
  sl_seam

end Cert.KernelIdeal.Body
-- ==== Proof.Run8.lean ====
/-
  The body's run, eighth stretch: the own chunk is finished.
-/
module

public import proofs.«01_k».proof.Proof.Run7

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

theorem slot7 (c : Dev nD) (v) (f) (w) (hf : rowsO f (left c) = part (I c) (left c)) (hw : (slot3 (rsM true) 1).view.read (Elt F) w = sumV I true 1 (src true c)) :
    (s3 (Memref.whole cc0_scratch7) 2 inb_S3x256x1024_S1x256x1024_2_0_0).view.read (Elt F) (run7.sl.Ht2_w1 c v f w) = sumV I true 2 c :=
  (stored3 (Memref.whole cc0_scratch7) 2 _ (v 2) _ shapeCasts_S256x1024_S1x256x1024).trans
    (congrArg₂ (fun A B => truncf .bf16 (addf (extf .f32 A bitsLt_bf16_f32) B) bitsLt_bf16_f32) hw
      ((half_load f (left c) true ((k0_off8_eq c).trans (congrArg (fun n => ![n, 0]) (show 512 * ((c.val + 3) % 4) + 256 = 512 * ((c.val + 3) % 4) + 256 * 1 by omega))) _ _ _ hf).trans (congrArg (fun x => half true (part (I c) x)) (back3_true c).symm)))

/-- The own chunk. -/
def run8 (c : Dev nD) : Σ' (G : Prop), G → (run7 I K c).1 := by
  sl_stretch
  sl_resume
  iapply (talk_send (CX I) K c _ true (.inl 2) 5 4 rfl (Fin.ext (k0_dev8_eq c))) $$ [Ht Ht2]
  · isplitl [Ht]; · iexact Ht
    iapply (pay_sb c I true 2 _ (slot7 I c v fr3 wHd1 hleft hwHd1)); iexact Ht2
  iintro Ht
  sl_exec_parts
  sl_seam

end Cert.KernelIdeal.Body
-- ==== Proof.Val8.lean ====
/-
  What the eighth stretch computed: the own chunk.
-/
module

public import proofs.«01_k».proof.Proof.Run8

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (c : Dev nD)

set_option maxHeartbeats 4000000

/-- The own chunk. -/
theorem chunk8 : run8.sl.v1077 I c = part (I c) (c) := by
  refine Eq.trans (b := rowsPart (I c) ((Memref.whole cc0_stg0_0).view.readAt (Elt F) (Rect.unit (s := S2048x1024) (k0_off5 c) S512x1024.size (k0_off5_inb c)).toLoadRect (I c).x) ((Memref.whole cc0_scratch0).view.readAt (Elt F) (Rect.unit (s := S2048x128) (k0_off6 c) S512x128.size (k0_off6_inb c)).toLoadRect cosT) ((Memref.whole cc0_scratch1).view.readAt (Elt F) (Rect.unit (s := S2048x128) (k0_off6 c) S512x128.size (k0_off6_inb c)).toLoadRect sinT)
    (keyHead I c) (valHead I c)) rfl ?_
  exact part_read (I c) (c) ((k0_off5_eq c)) ((k0_off6_eq c)) _ _ _ _ rfl rfl _ _ (fun n => rfl) (fun n => rfl)

end Cert.KernelIdeal.Body
-- ==== Proof.Run9.lean ====
/-
  The body's run, ninth stretch: the last arrival from the left finishes the lower half chunk.
-/
module

public import proofs.«01_k».proof.Proof.Val8

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

/-- The lower half chunk. -/
def run9 (c : Dev nD) : Σ' (G : Prop), G → (run8 I K c).1 := by
  sl_stretch
  sl_resume
  ihave Hr := (put_rows (o := k0_off5 c) c fr3 c (k0_off5_eq c) (k0_off5_inb c) (run8.sl.v1077 I c) _ (chunk8 I c)) $$ [Hr]
  · iexact Hr
  icases Hr with ⟨%fr4, %h4, Hr⟩
  iapply (talk_recv (CX I) K c false (.inl 2) 6 4 rfl (by decide) (land_credit false (.inl 2))) $$ Ht
  iintro ⟨Ht, Hc2⟩
  ihave Hc2 := (got_rs c I false 2) $$ Hc2
  icases Hc2 with ⟨%wHc2, %hwHc2, Hc2⟩
  ihave Hc2 := (show win c (slot3 (rsM false) 2) fullShare wHc2 ⊢ win c (s3 (Memref.whole cc0_scratch4) 2 inb_S3x256x1024_S1x256x1024_2_0_0) fullShare wHc2 from .rfl) $$ Hc2
  sl_exec_parts
  sl_seam

end Cert.KernelIdeal.Body
-- ==== Proof.Run10.lean ====
/-
  The body's run, tenth stretch: the last arrival from the right finishes the upper half chunk.
-/
module

public import proofs.«01_k».proof.Proof.Run9

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

theorem fin9 (c : Dev nD) (w) (hw : (slot3 (rsM false) 2).view.read (Elt F) w = sumV I false 2 (src false c)) : run9.sl.v1092 I c w = fin I false c :=
  congrArg₂ (fun A B => addf (extf .f32 A bitsLt_bf16_f32) (half false B)) hw (chunk8 I c)

theorem slot9 (c : Dev nD) (u') (w) (hw : (slot3 (rsM false) 2).view.read (Elt F) w = sumV I false 2 (src false c)) :
    (s8 (Memref.whole cc0_scratch8) 0 inb_S8x128x1024_S1x128x1024_0_0_0).view.read (Elt F) (run9.sl.Ha0_w1 I c u' w) = CX I c false (.inr 0) :=
  (stored8 (Memref.whole cc0_scratch8) 0 _ (u' 0) _ shapeCasts_S128x1024_S1x128x1024).trans
    (congrArg (fun A => truncf .bf16 (quarter false A) bitsLt_bf16_f32) (fin9 I c w hw))

theorem slot9' (c : Dev nD) (u') (w) (hw : (slot3 (rsM false) 2).view.read (Elt F) w = sumV I false 2 (src false c)) :
    (s8 (Memref.whole cc0_scratch8) 1 inb_S8x128x1024_S1x128x1024_1_0_0).view.read (Elt F) (run9.sl.Ha1_w2 I c u' w) = CX I c false (.inr 1) :=
  (stored8 (Memref.whole cc0_scratch8) 1 _ (u' 1) _ shapeCasts_S128x1024_S1x128x1024).trans
    (congrArg (fun A => truncf .bf16 (quarter true A) bitsLt_bf16_f32) (fin9 I c w hw))

/-- The upper half chunk. -/
def run10 (c : Dev nD) : Σ' (G : Prop), G → (run9 I K c).1 := by
  sl_stretch
  sl_resume
  ihave Hr := (put_own I c (good_nil I c fr4) false (o := k0_off9 c) (k0_off9_eq c) (k0_off9_inb c) (run9.sl.v1092 I c wHc2) (fin9 I c wHc2 hwHc2)) $$ [Hr]
  · iexact Hr
  icases Hr with ⟨%fr5, %h5, Hr⟩
  iapply (talk_recv (CX I) K c true (.inl 2) 6 5 rfl (by decide) (land_credit true (.inl 2))) $$ Ht
  iintro ⟨Ht, Hd2⟩
  ihave Hd2 := (got_rs c I true 2) $$ Hd2
  icases Hd2 with ⟨%wHd2, %hwHd2, Hd2⟩
  ihave Hd2 := (show win c (slot3 (rsM true) 2) fullShare wHd2 ⊢ win c (s3 (Memref.whole cc0_scratch5) 2 inb_S3x256x1024_S1x256x1024_2_0_0) fullShare wHd2 from .rfl) $$ Hd2
  sl_exec_parts
  sl_seam

end Cert.KernelIdeal.Body
-- ==== Proof.Run11.lean ====
/-
  The body's run, eleventh stretch: the finished quarters leave, and the first of the left neighbour's arrives.
-/
module

public import proofs.«01_k».proof.Proof.Run10

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

theorem fin10 (c : Dev nD) (w) (hw : (slot3 (rsM true) 2).view.read (Elt F) w = sumV I true 2 (src true c)) : run10.sl.v1118 I c w = fin I true c :=
  congrArg₂ (fun A B => addf (extf .f32 A bitsLt_bf16_f32) (half true B)) hw (chunk8 I c)

theorem slot10 (c : Dev nD) (v') (w) (hw : (slot3 (rsM true) 2).view.read (Elt F) w = sumV I true 2 (src true c)) :
    (s8 (Memref.whole cc0_scratch9) 0 inb_S8x128x1024_S1x128x1024_0_0_0).view.read (Elt F) (run10.sl.Hb0_w1 I c v' w) = CX I c true (.inr 0) :=
  (stored8 (Memref.whole cc0_scratch9) 0 _ (v' 0) _ shapeCasts_S128x1024_S1x128x1024).trans
    (congrArg (fun A => truncf .bf16 (quarter false A) bitsLt_bf16_f32) (fin10 I c w hw))

theorem slot10' (c : Dev nD) (v') (w) (hw : (slot3 (rsM true) 2).view.read (Elt F) w = sumV I true 2 (src true c)) :
    (s8 (Memref.whole cc0_scratch9) 1 inb_S8x128x1024_S1x128x1024_1_0_0).view.read (Elt F) (run10.sl.Hb1_w2 I c v' w) = CX I c true (.inr 1) :=
  (stored8 (Memref.whole cc0_scratch9) 1 _ (v' 1) _ shapeCasts_S128x1024_S1x128x1024).trans
    (congrArg (fun A => truncf .bf16 (quarter true A) bitsLt_bf16_f32) (fin10 I c w hw))

/-- The quarters of the own chunk on their way. -/
def run11 (c : Dev nD) : Σ' (G : Prop), G → (run10 I K c).1 := by
  sl_stretch
  sl_resume
  ihave Hr := (put_own I c h5 true (o := k0_off10 c) ((k0_off10_eq c).trans (congrArg (fun n => ![n, 0]) (show 512 * c.val + 256 = 512 * c.val + 256 * 1 by omega))) (k0_off10_inb c) (run10.sl.v1118 I c wHd2) (fin10 I c wHd2 hwHd2)) $$ [Hr]
  · iexact Hr
  icases Hr with ⟨%fr6, %h6, Hr⟩
  ihave Ha0 := (halve c (s8 (Memref.whole cc0_scratch8) 0 inb_S8x128x1024_S1x128x1024_0_0_0) (run9.sl.Ha0_w1 I c u' wHc2)) $$ [Ha0]
  · iexact Ha0
  icases Ha0 with ⟨Ha0, Ka0⟩
  ihave Ha1 := (halve c (s8 (Memref.whole cc0_scratch8) 1 inb_S8x128x1024_S1x128x1024_1_0_0) (run9.sl.Ha1_w2 I c u' wHc2)) $$ [Ha1]
  · iexact Ha1
  icases Ha1 with ⟨Ha1, Ka1⟩
  ihave Hb0 := (halve c (s8 (Memref.whole cc0_scratch9) 0 inb_S8x128x1024_S1x128x1024_0_0_0) (run10.sl.Hb0_w1 I c v' wHd2)) $$ [Hb0]
  · iexact Hb0
  icases Hb0 with ⟨Hb0, Kb0⟩
  ihave Hb1 := (halve c (s8 (Memref.whole cc0_scratch9) 1 inb_S8x128x1024_S1x128x1024_1_0_0) (run10.sl.Hb1_w2 I c v' wHd2)) $$ [Hb1]
  · iexact Hb1
  icases Hb1 with ⟨Hb1, Kb1⟩
  iapply (talk_send (CX I) K c _ false (.inr 0) 6 6 rfl (Fin.ext (k0_dev9_eq c))) $$ [Ht Ha0]
  · isplitl [Ht]; · iexact Ht
    iapply (pay_ag c I false 0 _ (slot9 I c u' wHc2 hwHc2)); iexact Ha0
  iintro Ht
  sl_exec_parts
  iapply (talk_send (CX I) K c _ true (.inr 0) 7 6 rfl (Fin.ext (k0_dev10_eq c))) $$ [Ht Hb0]
  · isplitl [Ht]; · iexact Ht
    iapply (pay_ag c I true 0 _ (slot10 I c v' wHd2 hwHd2)); iexact Hb0
  iintro Ht
  sl_exec_parts
  iapply (talk_send (CX I) K c _ false (.inr 1) 8 6 rfl (Fin.ext (k0_dev11_eq c))) $$ [Ht Ha1]
  · isplitl [Ht]; · iexact Ht
    iapply (pay_ag c I false 1 _ (slot9' I c u' wHc2 hwHc2)); iexact Ha1
  iintro Ht
  sl_exec_parts
  iapply (talk_send (CX I) K c _ true (.inr 1) 9 6 rfl (Fin.ext (k0_dev12_eq c))) $$ [Ht Hb1]
  · isplitl [Ht]; · iexact Ht
    iapply (pay_ag c I true 1 _ (slot10' I c v' wHd2 hwHd2)); iexact Hb1
  iintro Ht
  sl_exec_parts
  iapply (talk_recv (CX I) K c false (.inr 0) 10 6 rfl (by decide) (land_credit false (.inr 0))) $$ Ht
  iintro ⟨Ht, He0⟩
  ihave He0 := (got_ag c I false 0) $$ He0
  icases He0 with ⟨%wHe0, %hwHe0, He0⟩
  ihave He0 := (show win c (slot8 (agM false) (hi8 0)) fullShare wHe0 ⊢ win c (s8 (Memref.whole cc0_scratch8) 2 inb_S8x128x1024_S1x128x1024_2_0_0) fullShare wHe0 from .rfl) $$ He0
  sl_exec_parts
  sl_seam

end Cert.KernelIdeal.Body
-- ==== Proof.Run12.lean ====
/-
  The body's run, twelfth stretch.
-/
module

public import proofs.«01_k».proof.Proof.Run11

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

theorem awayL1 (c : Dev nD) : left (c) ≠ c := by revert c; decide
theorem awayL2 (c : Dev nD) : left (left (c)) ≠ c := by revert c; decide
theorem awayL3 (c : Dev nD) : left (left (left (c))) ≠ c := by revert c; decide
theorem awayR1 (c : Dev nD) : right (c) ≠ c := by revert c; decide
theorem awayR2 (c : Dev nD) : right (right (c)) ≠ c := by revert c; decide
theorem awayR3 (c : Dev nD) : right (right (right (c))) ≠ c := by revert c; decide

/-- x -/
def run12 (c : Dev nD) : Σ' (G : Prop), G → (run11 I K c).1 := by
  sl_stretch
  sl_resume
  ihave He0 := (halve c (s8 (Memref.whole cc0_scratch8) 2 inb_S8x128x1024_S1x128x1024_2_0_0) wHe0) $$ [He0]
  · iexact He0
  icases He0 with ⟨He0, Ke0⟩
  iapply (talk_send (CX I) K c _ false (.inr 2) 10 7 rfl (Fin.ext (k0_dev13_eq c))) $$ [Ht He0]
  · isplitl [Ht]; · iexact Ht
    iapply (pay_ag c I false 2 _ hwHe0); iexact He0
  iintro Ht
  sl_exec_parts
  ihave Hr := (put_got I c h6 (left (c)) (awayL1 c) false false (o := k0_off11 c 1#32 0#32) ((k0_off11_eq c 0 0).trans (congrArg (fun n => ![n, 0]) (show 512 * (((c.val + 7) - 0) % 4) + 128 * 0 = 512 * ((c.val + 3) % 4) + 256 * 0 + 128 * 0 by omega))) (k0_off11_inb c 0 0) _ _ rfl hwHe0) $$ [Hr]
  · iexact Hr
  icases Hr with ⟨%fr7, %h7, Hr⟩
  iapply (talk_recv (CX I) K c true (.inr 0) 11 7 rfl (by decide) (land_credit true (.inr 0))) $$ Ht
  iintro ⟨Ht, Hf0⟩
  ihave Hf0 := (got_ag c I true 0) $$ Hf0
  icases Hf0 with ⟨%wHf0, %hwHf0, Hf0⟩
  ihave Hf0 := (show win c (slot8 (agM true) (hi8 0)) fullShare wHf0 ⊢ win c (s8 (Memref.whole cc0_scratch9) 2 inb_S8x128x1024_S1x128x1024_2_0_0) fullShare wHf0 from .rfl) $$ Hf0
  sl_exec_parts
  sl_seam

end Cert.KernelIdeal.Body
-- ==== Proof.Run13.lean ====
/-
  The body's run: quarter chunks arrive, are stored and travel on.
-/
module

public import proofs.«01_k».proof.Proof.Run12

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

/-- Quarter chunks. -/
def run13 (c : Dev nD) : Σ' (G : Prop), G → (run12 I K c).1 := by
  sl_stretch
  sl_resume
  ihave Hf0 := (halve c (s8 (Memref.whole cc0_scratch9) 2 inb_S8x128x1024_S1x128x1024_2_0_0) wHf0) $$ [Hf0]
  · iexact Hf0
  icases Hf0 with ⟨Hf0, Kf0⟩
  iapply (talk_send (CX I) K c _ true (.inr 2) 11 8 rfl (Fin.ext (k0_dev14_eq c))) $$ [Ht Hf0]
  · isplitl [Ht]; · iexact Ht
    iapply (pay_ag c I true 2 _ hwHf0); iexact Hf0
  iintro Ht
  sl_exec_parts
  ihave Hr := (put_got I c h7 (right (c)) (awayR1 c) true false (o := k0_off12 c 1#32 0#32) ((k0_off12_eq c 0 0).trans (congrArg (fun n => ![n, 0]) (show 512 * ((c.val + 0 + 1) % 4) + 128 * 0 + 256 = 512 * ((c.val + 1) % 4) + 256 * 1 + 128 * 0 by omega))) (k0_off12_inb c 0 0) _ _ rfl hwHf0) $$ [Hr]
  · iexact Hr
  icases Hr with ⟨%fr8, %h8, Hr⟩
  iapply (talk_recv (CX I) K c false (.inr 1) 12 8 rfl (by decide) (land_credit false (.inr 1))) $$ Ht
  iintro ⟨Ht, He1⟩
  ihave He1 := (got_ag c I false 1) $$ He1
  icases He1 with ⟨%wHe1, %hwHe1, He1⟩
  ihave He1 := (show win c (slot8 (agM false) (hi8 1)) fullShare wHe1 ⊢ win c (s8 (Memref.whole cc0_scratch8) 3 inb_S8x128x1024_S1x128x1024_3_0_0) fullShare wHe1 from .rfl) $$ He1
  sl_exec_parts
  ihave He1 := (halve c (s8 (Memref.whole cc0_scratch8) 3 inb_S8x128x1024_S1x128x1024_3_0_0) wHe1) $$ [He1]
  · iexact He1
  icases He1 with ⟨He1, Ke1⟩
  iapply (talk_send (CX I) K c _ false (.inr 3) 12 9 rfl (Fin.ext (k0_dev15_eq c))) $$ [Ht He1]
  · isplitl [Ht]; · iexact Ht
    iapply (pay_ag c I false 3 _ hwHe1); iexact He1
  iintro Ht
  sl_exec_parts
  ihave Hr := (put_got I c h8 (left (c)) (awayL1 c) false true (o := k0_off11 c 1#32 128#32) ((k0_off11_eq c 0 1).trans (congrArg (fun n => ![n, 0]) (show 512 * (((c.val + 7) - 0) % 4) + 128 * 1 = 512 * ((c.val + 3) % 4) + 256 * 0 + 128 * 1 by omega))) (k0_off11_inb c 0 1) _ _ rfl hwHe1) $$ [Hr]
  · iexact Hr
  icases Hr with ⟨%fr9, %h9, Hr⟩
  iapply (talk_recv (CX I) K c true (.inr 1) 13 9 rfl (by decide) (land_credit true (.inr 1))) $$ Ht
  iintro ⟨Ht, Hf1⟩
  ihave Hf1 := (got_ag c I true 1) $$ Hf1
  icases Hf1 with ⟨%wHf1, %hwHf1, Hf1⟩
  ihave Hf1 := (show win c (slot8 (agM true) (hi8 1)) fullShare wHf1 ⊢ win c (s8 (Memref.whole cc0_scratch9) 3 inb_S8x128x1024_S1x128x1024_3_0_0) fullShare wHf1 from .rfl) $$ Hf1
  sl_exec_parts
  sl_seam

end Cert.KernelIdeal.Body
-- ==== Proof.Run14.lean ====
/-
  The body's run: quarter chunks arrive, are stored and travel on.
-/
module

public import proofs.«01_k».proof.Proof.Run13

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

/-- Quarter chunks. -/
def run14 (c : Dev nD) : Σ' (G : Prop), G → (run13 I K c).1 := by
  sl_stretch
  sl_resume
  ihave Hf1 := (halve c (s8 (Memref.whole cc0_scratch9) 3 inb_S8x128x1024_S1x128x1024_3_0_0) wHf1) $$ [Hf1]
  · iexact Hf1
  icases Hf1 with ⟨Hf1, Kf1⟩
  iapply (talk_send (CX I) K c _ true (.inr 3) 13 10 rfl (Fin.ext (k0_dev16_eq c))) $$ [Ht Hf1]
  · isplitl [Ht]; · iexact Ht
    iapply (pay_ag c I true 3 _ hwHf1); iexact Hf1
  iintro Ht
  sl_exec_parts
  ihave Hr := (put_got I c h9 (right (c)) (awayR1 c) true true (o := k0_off12 c 1#32 128#32) ((k0_off12_eq c 0 1).trans (congrArg (fun n => ![n, 0]) (show 512 * ((c.val + 0 + 1) % 4) + 128 * 1 + 256 = 512 * ((c.val + 1) % 4) + 256 * 1 + 128 * 1 by omega))) (k0_off12_inb c 0 1) _ _ rfl hwHf1) $$ [Hr]
  · iexact Hr
  icases Hr with ⟨%fr10, %h10, Hr⟩
  iapply (talk_recv (CX I) K c false (.inr 2) 14 10 rfl (by decide) (land_credit false (.inr 2))) $$ Ht
  iintro ⟨Ht, He2⟩
  ihave He2 := (got_ag c I false 2) $$ He2
  icases He2 with ⟨%wHe2, %hwHe2, He2⟩
  ihave He2 := (show win c (slot8 (agM false) (hi8 2)) fullShare wHe2 ⊢ win c (s8 (Memref.whole cc0_scratch8) 4 inb_S8x128x1024_S1x128x1024_4_0_0) fullShare wHe2 from .rfl) $$ He2
  sl_exec_parts
  ihave He2 := (halve c (s8 (Memref.whole cc0_scratch8) 4 inb_S8x128x1024_S1x128x1024_4_0_0) wHe2) $$ [He2]
  · iexact He2
  icases He2 with ⟨He2, Ke2⟩
  iapply (talk_send (CX I) K c _ false (.inr 4) 14 11 rfl (Fin.ext (k0_dev17_eq c))) $$ [Ht He2]
  · isplitl [Ht]; · iexact Ht
    iapply (pay_ag c I false 4 _ hwHe2); iexact He2
  iintro Ht
  sl_exec_parts
  ihave Hr := (put_got I c h10 (left (left (c))) (awayL2 c) false false (o := k0_off11 c 2#32 0#32) ((k0_off11_eq c 1 0).trans (congrArg (fun n => ![n, 0]) (show 512 * (((c.val + 7) - 1) % 4) + 128 * 0 = 512 * ((((c.val + 3) % 4) + 3) % 4) + 256 * 0 + 128 * 0 by omega))) (k0_off11_inb c 1 0) _ _ rfl hwHe2) $$ [Hr]
  · iexact Hr
  icases Hr with ⟨%fr11, %h11, Hr⟩
  iapply (talk_recv (CX I) K c true (.inr 2) 15 11 rfl (by decide) (land_credit true (.inr 2))) $$ Ht
  iintro ⟨Ht, Hf2⟩
  ihave Hf2 := (got_ag c I true 2) $$ Hf2
  icases Hf2 with ⟨%wHf2, %hwHf2, Hf2⟩
  ihave Hf2 := (show win c (slot8 (agM true) (hi8 2)) fullShare wHf2 ⊢ win c (s8 (Memref.whole cc0_scratch9) 4 inb_S8x128x1024_S1x128x1024_4_0_0) fullShare wHf2 from .rfl) $$ Hf2
  sl_exec_parts
  sl_seam

end Cert.KernelIdeal.Body
-- ==== Proof.Run15.lean ====
/-
  The body's run: quarter chunks arrive, are stored and travel on.
-/
module

public import proofs.«01_k».proof.Proof.Run14

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

/-- Quarter chunks. -/
def run15 (c : Dev nD) : Σ' (G : Prop), G → (run14 I K c).1 := by
  sl_stretch
  sl_resume
  ihave Hf2 := (halve c (s8 (Memref.whole cc0_scratch9) 4 inb_S8x128x1024_S1x128x1024_4_0_0) wHf2) $$ [Hf2]
  · iexact Hf2
  icases Hf2 with ⟨Hf2, Kf2⟩
  iapply (talk_send (CX I) K c _ true (.inr 4) 15 12 rfl (Fin.ext (k0_dev18_eq c))) $$ [Ht Hf2]
  · isplitl [Ht]; · iexact Ht
    iapply (pay_ag c I true 4 _ hwHf2); iexact Hf2
  iintro Ht
  sl_exec_parts
  ihave Hr := (put_got I c h11 (right (right (c))) (awayR2 c) true false (o := k0_off12 c 2#32 0#32) ((k0_off12_eq c 1 0).trans (congrArg (fun n => ![n, 0]) (show 512 * ((c.val + 1 + 1) % 4) + 128 * 0 + 256 = 512 * ((((c.val + 1) % 4) + 1) % 4) + 256 * 1 + 128 * 0 by omega))) (k0_off12_inb c 1 0) _ _ rfl hwHf2) $$ [Hr]
  · iexact Hr
  icases Hr with ⟨%fr12, %h12, Hr⟩
  iapply (talk_recv (CX I) K c false (.inr 3) 16 12 rfl (by decide) (land_credit false (.inr 3))) $$ Ht
  iintro ⟨Ht, He3⟩
  ihave He3 := (got_ag c I false 3) $$ He3
  icases He3 with ⟨%wHe3, %hwHe3, He3⟩
  ihave He3 := (show win c (slot8 (agM false) (hi8 3)) fullShare wHe3 ⊢ win c (s8 (Memref.whole cc0_scratch8) 5 inb_S8x128x1024_S1x128x1024_5_0_0) fullShare wHe3 from .rfl) $$ He3
  sl_exec_parts
  ihave He3 := (halve c (s8 (Memref.whole cc0_scratch8) 5 inb_S8x128x1024_S1x128x1024_5_0_0) wHe3) $$ [He3]
  · iexact He3
  icases He3 with ⟨He3, Ke3⟩
  iapply (talk_send (CX I) K c _ false (.inr 5) 16 13 rfl (Fin.ext (k0_dev19_eq c))) $$ [Ht He3]
  · isplitl [Ht]; · iexact Ht
    iapply (pay_ag c I false 5 _ hwHe3); iexact He3
  iintro Ht
  sl_exec_parts
  ihave Hr := (put_got I c h12 (left (left (c))) (awayL2 c) false true (o := k0_off11 c 2#32 128#32) ((k0_off11_eq c 1 1).trans (congrArg (fun n => ![n, 0]) (show 512 * (((c.val + 7) - 1) % 4) + 128 * 1 = 512 * ((((c.val + 3) % 4) + 3) % 4) + 256 * 0 + 128 * 1 by omega))) (k0_off11_inb c 1 1) _ _ rfl hwHe3) $$ [Hr]
  · iexact Hr
  icases Hr with ⟨%fr13, %h13, Hr⟩
  iapply (talk_recv (CX I) K c true (.inr 3) 17 13 rfl (by decide) (land_credit true (.inr 3))) $$ Ht
  iintro ⟨Ht, Hf3⟩
  ihave Hf3 := (got_ag c I true 3) $$ Hf3
  icases Hf3 with ⟨%wHf3, %hwHf3, Hf3⟩
  ihave Hf3 := (show win c (slot8 (agM true) (hi8 3)) fullShare wHf3 ⊢ win c (s8 (Memref.whole cc0_scratch9) 5 inb_S8x128x1024_S1x128x1024_5_0_0) fullShare wHf3 from .rfl) $$ Hf3
  sl_exec_parts
  sl_seam

end Cert.KernelIdeal.Body
-- ==== Proof.Run16.lean ====
/-
  The body's run, sixteenth stretch: the last quarter chunks are stored.
-/
module

public import proofs.«01_k».proof.Proof.Run15

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

theorem full (c : Dev nD) : ∀ n : Fin 16, n.val ∈ ([4 * (right (right (right c))).val + 2 * 1 + 1] ++ ([4 * (left (left (left c))).val + 2 * 0 + 1] ++ ([4 * (right (right (right c))).val + 2 * 1 + 0] ++ ([4 * (left (left (left c))).val + 2 * 0 + 0] ++
    ([4 * (right (right c)).val + 2 * 1 + 1] ++ ([4 * (left (left c)).val + 2 * 0 + 1] ++ ([4 * (right (right c)).val + 2 * 1 + 0] ++ ([4 * (left (left c)).val + 2 * 0 + 0] ++
    ([4 * (right c).val + 2 * 1 + 1] ++ ([4 * (left c).val + 2 * 0 + 1] ++ ([4 * (right c).val + 2 * 1 + 0] ++ ([4 * (left c).val + 2 * 0 + 0] ++
    ([4 * c.val + 2 * 1, 4 * c.val + 2 * 1 + 1] ++ ([4 * c.val + 2 * 0, 4 * c.val + 2 * 0 + 1] ++ []))))))))))))))  := by
  revert c; decide

/-- The last quarters. -/
def run16 (c : Dev nD) : Σ' (G : Prop), G → (run15 I K c).1 := by
  sl_stretch
  sl_resume
  ihave Hf3 := (halve c (s8 (Memref.whole cc0_scratch9) 5 inb_S8x128x1024_S1x128x1024_5_0_0) wHf3) $$ [Hf3]
  · iexact Hf3
  icases Hf3 with ⟨Hf3, Kf3⟩
  iapply (talk_send (CX I) K c _ true (.inr 5) 17 14 rfl (Fin.ext (k0_dev20_eq c))) $$ [Ht Hf3]
  · isplitl [Ht]; · iexact Ht
    iapply (pay_ag c I true 5 _ hwHf3); iexact Hf3
  iintro Ht
  sl_exec_parts
  ihave Hr := (put_got I c h13 (right (right (c))) (awayR2 c) true true (o := k0_off12 c 2#32 128#32) ((k0_off12_eq c 1 1).trans (congrArg (fun n => ![n, 0]) (show 512 * ((c.val + 1 + 1) % 4) + 128 * 1 + 256 = 512 * ((((c.val + 1) % 4) + 1) % 4) + 256 * 1 + 128 * 1 by omega))) (k0_off12_inb c 1 1) _ _ rfl hwHf3) $$ [Hr]
  · iexact Hr
  icases Hr with ⟨%fr14, %h14, Hr⟩
  iapply (talk_recv (CX I) K c false (.inr 4) 18 14 rfl (by decide) (land_credit false (.inr 4))) $$ Ht
  iintro ⟨Ht, He4⟩
  ihave He4 := (got_ag c I false 4) $$ He4
  icases He4 with ⟨%wHe4, %hwHe4, He4⟩
  ihave He4 := (show win c (slot8 (agM false) (hi8 4)) fullShare wHe4 ⊢ win c (s8 (Memref.whole cc0_scratch8) 6 inb_S8x128x1024_S1x128x1024_6_0_0) fullShare wHe4 from .rfl) $$ He4
  sl_exec_parts
  ihave Hr := (put_got I c h14 (left (left (left (c)))) (awayL3 c) false false (o := k0_off13 c 0#32) ((k0_off13_eq c 0).trans (congrArg (fun n => ![n, 0]) (show 512 * ((c.val + 5) % 4) + 128 * 0 = 512 * ((((((c.val + 3) % 4) + 3) % 4) + 3) % 4) + 256 * 0 + 128 * 0 by omega))) (k0_off13_inb c 0) _ _ rfl hwHe4) $$ [Hr]
  · iexact Hr
  icases Hr with ⟨%fr15, %h15, Hr⟩
  iapply (talk_recv (CX I) K c true (.inr 4) 18 15 rfl (by decide) (land_credit true (.inr 4))) $$ Ht
  iintro ⟨Ht, Hf4⟩
  ihave Hf4 := (got_ag c I true 4) $$ Hf4
  icases Hf4 with ⟨%wHf4, %hwHf4, Hf4⟩
  ihave Hf4 := (show win c (slot8 (agM true) (hi8 4)) fullShare wHf4 ⊢ win c (s8 (Memref.whole cc0_scratch9) 6 inb_S8x128x1024_S1x128x1024_6_0_0) fullShare wHf4 from .rfl) $$ Hf4
  sl_exec_parts
  ihave Hr := (put_got I c h15 (right (right (right (c)))) (awayR3 c) true false (o := k0_off14 c 0#32) ((k0_off14_eq c 0).trans (congrArg (fun n => ![n, 0]) (show 512 * ((c.val + 3) % 4) + 128 * 0 + 256 = 512 * ((((((c.val + 1) % 4) + 1) % 4) + 1) % 4) + 256 * 1 + 128 * 0 by omega))) (k0_off14_inb c 0) _ _ rfl hwHf4) $$ [Hr]
  · iexact Hr
  icases Hr with ⟨%fr16, %h16, Hr⟩
  iapply (talk_recv (CX I) K c false (.inr 5) 18 16 rfl (by decide) (land_credit false (.inr 5))) $$ Ht
  iintro ⟨Ht, He5⟩
  ihave He5 := (got_ag c I false 5) $$ He5
  icases He5 with ⟨%wHe5, %hwHe5, He5⟩
  ihave He5 := (show win c (slot8 (agM false) (hi8 5)) fullShare wHe5 ⊢ win c (s8 (Memref.whole cc0_scratch8) 7 inb_S8x128x1024_S1x128x1024_7_0_0) fullShare wHe5 from .rfl) $$ He5
  sl_exec_parts
  ihave Hr := (put_got I c h16 (left (left (left (c)))) (awayL3 c) false true (o := k0_off13 c 128#32) ((k0_off13_eq c 1).trans (congrArg (fun n => ![n, 0]) (show 512 * ((c.val + 5) % 4) + 128 * 1 = 512 * ((((((c.val + 3) % 4) + 3) % 4) + 3) % 4) + 256 * 0 + 128 * 1 by omega))) (k0_off13_inb c 1) _ _ rfl hwHe5) $$ [Hr]
  · iexact Hr
  icases Hr with ⟨%fr17, %h17, Hr⟩
  iapply (talk_recv (CX I) K c true (.inr 5) 18 17 rfl (by decide) (land_credit true (.inr 5))) $$ Ht
  iintro ⟨Ht, Hf5⟩
  ihave Hf5 := (got_ag c I true 5) $$ Hf5
  icases Hf5 with ⟨%wHf5, %hwHf5, Hf5⟩
  ihave Hf5 := (show win c (slot8 (agM true) (hi8 5)) fullShare wHf5 ⊢ win c (s8 (Memref.whole cc0_scratch9) 7 inb_S8x128x1024_S1x128x1024_7_0_0) fullShare wHf5 from .rfl) $$ Hf5
  sl_exec_parts
  ihave Hr := (put_got I c h17 (right (right (right (c)))) (awayR3 c) true true (o := k0_off14 c 128#32) ((k0_off14_eq c 1).trans (congrArg (fun n => ![n, 0]) (show 512 * ((c.val + 3) % 4) + 128 * 1 + 256 = 512 * ((((((c.val + 1) % 4) + 1) % 4) + 1) % 4) + 256 * 1 + 128 * 1 by omega))) (k0_off14_inb c 1) _ _ rfl hwHf5) $$ [Hr]
  · iexact Hr
  icases Hr with ⟨%fr18, %h18, Hr⟩
  have hout : fr18 = outT I c := good_all I c h18 (full c)
  sl_seam

end Cert.KernelIdeal.Body
-- ==== Proof.Run17.lean ====
/-
  The body's run, seventeenth stretch: the transfers it started have left.
-/
module

public import proofs.«01_k».proof.Proof.Run16

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

/-- The first waits. -/
def run17 (c : Dev nD) : Σ' (G : Prop), G → (run16 I K c).1 := by
  sl_stretch
  sl_resume
  ihave Hbye := (talk_bye (CX I) K c) $$ Ht
  iapply (bye_wait (CX I) K c false (.inl 0) 0 rfl (src_credit false (.inl 0))) $$ Hbye
  iintro Hbye
  sl_exec_parts
  iapply (bye_wait (CX I) K c true (.inl 0) 1 rfl (src_credit true (.inl 0))) $$ Hbye
  iintro Hbye
  sl_exec_parts
  iapply (bye_wait (CX I) K c false (.inl 1) 2 rfl (src_credit false (.inl 1))) $$ Hbye
  iintro Hbye
  sl_exec_parts
  iapply (bye_wait (CX I) K c true (.inl 1) 3 rfl (src_credit true (.inl 1))) $$ Hbye
  iintro Hbye
  sl_exec_parts
  iapply (bye_wait (CX I) K c false (.inl 2) 4 rfl (src_credit false (.inl 2))) $$ Hbye
  iintro Hbye
  sl_exec_parts
  iapply (bye_wait (CX I) K c true (.inl 2) 5 rfl (src_credit true (.inl 2))) $$ Hbye
  iintro Hbye
  sl_exec_parts
  iapply (bye_wait (CX I) K c false (.inr 0) 6 rfl (src_credit false (.inr 0))) $$ Hbye
  iintro Hbye
  sl_exec_parts
  iapply (bye_wait (CX I) K c false (.inr 1) 7 rfl (src_credit false (.inr 1))) $$ Hbye
  iintro Hbye
  sl_exec_parts
  iapply (bye_wait (CX I) K c false (.inr 2) 8 rfl (src_credit false (.inr 2))) $$ Hbye
  iintro Hbye
  sl_exec_parts
  iapply (bye_wait (CX I) K c false (.inr 3) 9 rfl (src_credit false (.inr 3))) $$ Hbye
  iintro Hbye
  sl_exec_parts
  sl_seam

end Cert.KernelIdeal.Body
-- ==== Proof.Runs.lean ====
/-
  The body's run as a whole.
-/
module

public import proofs.«01_k».proof.Proof.Run17
public import proofs.«01_k».proof.Proof.Ends

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F) (K : Dev nD × CellKind → ℕ)

set_option maxHeartbeats 4000000

/-- The body runs from what the launch gives to the result. -/
theorem runs (c : Dev nD) : Runs I K c := by
  refine (run1 I K c).2 ((run2 I K c).2 ((run3 I K c).2 ((run4 I K c).2 ((run5 I K c).2 ((run6 I K c).2 ((run7 I K c).2 ((run8 I K c).2 ((run9 I K c).2 ((run10 I K c).2 ((run11 I K c).2 ((run12 I K c).2 ((run13 I K c).2 ((run14 I K c).2 ((run15 I K c).2 ((run16 I K c).2 ((run17 I K c).2 (?_)))))))))))))))))
  sl_resume
  iapply (bye_wait (CX I) K c false (.inr 4) 10 rfl (src_credit false (.inr 4))) $$ Hbye
  iintro Hbye
  sl_exec_parts
  iapply (bye_wait (CX I) K c false (.inr 5) 11 rfl (src_credit false (.inr 5))) $$ Hbye
  iintro Hbye
  sl_exec_parts
  iapply (bye_wait (CX I) K c true (.inr 0) 12 rfl (src_credit true (.inr 0))) $$ Hbye
  iintro Hbye
  sl_exec_parts
  iapply (bye_wait (CX I) K c true (.inr 1) 13 rfl (src_credit true (.inr 1))) $$ Hbye
  iintro Hbye
  sl_exec_parts
  iapply (bye_wait (CX I) K c true (.inr 2) 14 rfl (src_credit true (.inr 2))) $$ Hbye
  iintro Hbye
  sl_exec_parts
  iapply (bye_wait (CX I) K c true (.inr 3) 15 rfl (src_credit true (.inr 3))) $$ Hbye
  iintro Hbye
  sl_exec_parts
  iapply (bye_wait (CX I) K c true (.inr 4) 16 rfl (src_credit true (.inr 4))) $$ Hbye
  iintro Hbye
  sl_exec_parts
  iapply (bye_wait (CX I) K c true (.inr 5) 17 rfl (src_credit true (.inr 5))) $$ Hbye
  iintro Hbye
  sl_exec_parts
  rw [wp_ret]; imodintro
  iapply HQ
  isplitl [Hbye]; · iexact Hbye
  isplitl [Hx]; · iexact Hx
  isplitl [Hq]; · iexact Hq
  isplitl [Hk]; · iexact Hk
  isplitl [Hv]; · iexact Hv
  isplitl [Ho]; · iexact Ho
  isplitl [Hr]; · iapply (restate c (b := cc0_stg5_0) hout); iexact Hr
  isplitl [Hcos]; · iexists _; iexact Hcos
  isplitl [Hsin]; · iexists _; iexact Hsin
  isplitl [Hkb]; · iexists _; iexact Hkb
  isplitl [Hvb]; · iexists _; iexact Hvb
  unfold around
  isplitl [Hc0 Hc1 Hc2]
  · iapply (three c (Memref.whole cc0_scratch4) inb_S3x256x1024_S1x256x1024_0_0_0 inb_S3x256x1024_S1x256x1024_1_0_0 inb_S3x256x1024_S1x256x1024_2_0_0 wHc0 wHc1 wHc2)
    isplitl [Hc0]; · iexact Hc0
    isplitl [Hc1]; · iexact Hc1
    iexact Hc2
  isplitl [Hd0 Hd1 Hd2]
  · iapply (three c (Memref.whole cc0_scratch5) inb_S3x256x1024_S1x256x1024_0_0_0 inb_S3x256x1024_S1x256x1024_1_0_0 inb_S3x256x1024_S1x256x1024_2_0_0 wHd0 wHd1 wHd2)
    isplitl [Hd0]; · iexact Hd0
    isplitl [Hd1]; · iexact Hd1
    iexact Hd2
  isplitl [Ka0 Ka1 Ke0 Ke1 Ke2 Ke3 He4 He5]
  · iapply (eight c (Memref.whole cc0_scratch8) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (run9.sl.Ha0_w1 I c u' wHc2) (run9.sl.Ha1_w2 I c u' wHc2) wHe0 wHe1 wHe2 wHe3 wHe4 wHe5)
    isplitl [Ka0]; · iexact Ka0
    isplitl [Ka1]; · iexact Ka1
    isplitl [Ke0]; · iexact Ke0
    isplitl [Ke1]; · iexact Ke1
    isplitl [Ke2]; · iexact Ke2
    isplitl [Ke3]; · iexact Ke3
    isplitl [He4]; · iexact He4
    iexact He5
  iapply (eight c (Memref.whole cc0_scratch9) inb_S8x128x1024_S1x128x1024_0_0_0 inb_S8x128x1024_S1x128x1024_1_0_0 inb_S8x128x1024_S1x128x1024_2_0_0 inb_S8x128x1024_S1x128x1024_3_0_0 inb_S8x128x1024_S1x128x1024_4_0_0 inb_S8x128x1024_S1x128x1024_5_0_0 inb_S8x128x1024_S1x128x1024_6_0_0 inb_S8x128x1024_S1x128x1024_7_0_0 (run10.sl.Hb0_w1 I c v' wHd2) (run10.sl.Hb1_w2 I c v' wHd2) wHf0 wHf1 wHf2 wHf3 wHf4 wHf5)
  isplitl [Kb0]; · iexact Kb0
  isplitl [Kb1]; · iexact Kb1
  isplitl [Kf0]; · iexact Kf0
  isplitl [Kf1]; · iexact Kf1
  isplitl [Kf2]; · iexact Kf2
  isplitl [Kf3]; · iexact Kf3
  isplitl [Hf4]; · iexact Hf4
  iexact Hf5

end Cert.KernelIdeal.Body
-- ==== Proof.Launch.lean ====
/-
  The launch: every device's body run from the launch's gift, and the run of the whole program.
-/
module

public import Idealize.ShloMosaic.Lib.Pipeline.CollectiveSegs
public import proofs.«01_k».proof.Proof.Ghost
public import proofs.«01_k».proof.Proof.Runs

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- The blocks the launch stages on a device. -/
def inp (c : Dev nD) : In F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  wk := (win0_2.blk (0 : Fin 1)).view.read (Elt F) ((s₀ m ρ).mem ((c : Thread nD τ).loc main_arg2))
  wv := (win0_3.blk (0 : Fin 1)).view.read (Elt F) ((s₀ m ρ).mem ((c : Thread nD τ).loc main_arg3))
  wo := (win0_4.blk (0 : Fin 1)).view.read (Elt F) ((s₀ m ρ).mem ((c : Thread nD τ).loc main_arg4))

/-- What a device starts from, beside its buffers. -/
def start (c : Dev nD) : sProp 𝕄 :=
  iprop(G' (CX (inp m ρ)) c ∗ (cred (tallyAt (barCell c) () 2) ∗ bigSep Finset.univ fun x : Tr => cred (tallyAt (recvCell c x.1 x.2) () (amt x.2))) ∗ levAts L lv)
def Φ₀ (c : Dev nD) : sProp 𝕄 := iprop(start m ρ c ∗ Pipeline.scopedRest spec0 c)
def Φ₁ (c : Dev nD) : sProp 𝕄 := iprop(unscopedSems0 c ∗ Pipeline.ownSems0 osem c ∗ Pipeline.scopedRest spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m ρ c).x
    | ⟨1, _⟩ => (inp m ρ c).wq
    | ⟨2, _⟩ => (inp m ρ c).wk
    | ⟨3, _⟩ => (inp m ρ c).wv
    | ⟨4, _⟩ => (inp m ρ c).wo
    | ⟨5, _⟩ => outT (inp m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

/-- The conversation's start, from the launch's gift and the landing slots. -/
theorem hello_intro (I : Dev nD → In F) (c : Dev nD) :
    iprop(G' (CX I) c ∗ (cred (tallyAt (barCell c) () 2) ∗ bigSep Finset.univ fun x : Tr => cred (tallyAt (recvCell c x.1 x.2) () (amt x.2))) ∗ levAts L lv
        ∗ (∃ W, owes (c : Thread nD τ) (O₀ c) W) ∗ (bigSep Finset.univ fun h : Ch => landE c false h) ∗ (bigSep Finset.univ fun h : Ch => landE c true h))
      ⊢ (iprop(∃ K, Hello (CX I) K c) : sProp 𝕄) := by
  unfold G' recs payToks Hello records recvKit
  rw [atAll_eq]
  iintro ⟨⟨%K, ⟨HI, HR⟩, ⟨HaB, HaS, HaR⟩, HtB, Hst⟩, ⟨HcB, HcR⟩, Hlev, HO, Hl0, Hl1⟩
  iexists K
  isplitl [HI HR Hlev]
  · isplitl [HI]; · iexact HI
    isplitl [HR] <;> iassumption
  isplitl [HO]; · iexact HO
  isplitl [HtB]; · iexact HtB
  isplitl [HaB HcB]
  · isplitl [HaB] <;> iassumption
  isplitl [Hst]; · iexact Hst
  isplitl [HaR HcR]
  · rw [bigSep_sep']
    isplitl [HaR] <;> iassumption
  isplitl [HaS]; · iexact HaS
  isplitl [Hl0] <;> iassumption

/-- The conversation's end: the semaphores at zero, and the scratch whole again. -/
theorem bye_out (I : Dev nD → In F) (K : Dev nD × CellKind → ℕ) (c : Dev nD) :
    iprop(Bye (CX I) K c 18
        ∗ (∃ f, pts c cc0_scratch0 f) ∗ (∃ f, pts c cc0_scratch1 f) ∗ (∃ f, pts c cc0_scratch2 f) ∗ (∃ f, pts c cc0_scratch3 f) ∗ around c)
      ⊢ (iprop(Φ₁ c ∗ ∃ W, owes (c : Thread nD τ) 0 W) : sProp 𝕄) := by
  unfold Bye around Φ₁
  rw [upto_end wrank_lt, scopedRest0_eq, ownSems0_eq, unscopedSems0_eq, sepXK]
  iintro ⟨⟨-, HO, Hrd, -, Hsd, Hbar⟩, H0, H1, H2, H3, H4, H5, H8, H9⟩
  ihave Hsd' := (show (bigSep Finset.univ (sendDone (CX I) c) : sProp 𝕄)
      ⊢ iprop((bigSep Finset.univ fun x : Tr => semVal (sendCell c x.1 x.2) 0)
        ∗ (bigSep Finset.univ fun h : Ch => sendPay (CX I) c false h) ∗ bigSep Finset.univ fun h : Ch => sendPay (CX I) c true h) from by
    unfold sendDone; rw [bigSep_sep', sepTr (fun x => sendPay (CX I) c x.1 x.2)]) $$ Hsd
  icases Hsd' with ⟨Hsz, Hp0, Hp1⟩
  ihave Hb0 := (sent_back (CX I) c false) $$ Hp0
  icases Hb0 with ⟨H6, L8⟩
  ihave Hb1 := (sent_back (CX I) c true) $$ Hp1
  icases Hb1 with ⟨H7, L9⟩
  isplitr [HO]
  · isplitl [Hbar]; · iexact Hbar
    isplitl [Hsz Hrd]
    · isplitl [Hsz]; · iexact Hsz
      iexact Hrd
    isplitl [H0]; · iexact H0
    isplitl [H1]; · iexact H1
    isplitl [H2]; · iexact H2
    isplitl [H3]; · iexact H3
    isplitl [H4]; · iapply (close3 c (rsM false) (whole_rs false)); iexact H4
    isplitl [H5]; · iapply (close3 c (rsM true) (whole_rs true)); iexact H5
    isplitl [H6]; · iexact H6
    isplitl [H7]; · iexact H7
    isplitl [L8 H8]
    · iapply (slots_back c (agM false) (whole_ag false))
      isplitl [L8] <;> iassumption
    iapply (slots_back c (agM true) (whole_ag true))
    isplitl [L9] <;> iassumption
  iexact HO

def bodyPre (c : Dev nD) : sProp 𝕄 :=
  iprop(Φ₀ m ρ c ∗ (dats m ρ 0 c).owesAt () t0_0.castSucc
        ∗ (∃ d, stg c cc0_stg0_0 ((dats m ρ 0 c).before (0 : Fin 6) t0_0 d))
        ∗ (∃ d, stg c cc0_stg1_0 ((dats m ρ 0 c).before (1 : Fin 6) t0_0 d))
        ∗ (∃ d, stg c cc0_stg2_0 ((dats m ρ 0 c).before (2 : Fin 6) t0_0 d))
        ∗ (∃ d, stg c cc0_stg3_0 ((dats m ρ 0 c).before (3 : Fin 6) t0_0 d))
        ∗ (∃ d, stg c cc0_stg4_0 ((dats m ρ 0 c).before (4 : Fin 6) t0_0 d))
        ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (inp m ρ c).x ∗ stg c cc0_stg1_0 (inp m ρ c).wq ∗ stg c cc0_stg2_0 (inp m ρ c).wk ∗ stg c cc0_stg3_0 (inp m ρ c).wv ∗ stg c cc0_stg4_0 (inp m ρ c).wo ∗ stg c cc0_stg5_0 (outT (inp m ρ) c))

theorem fetch_in (w : Fin 5) : (cfg0.win (⟨w.val, by omega⟩ : Fin 6)).fetch t0_0 = true := by revert w; decide

set_option maxHeartbeats 1600000 in
/-- The body from what the launch gives to what it takes back. -/
theorem sound_body (c : Dev nD) : bodyPre m ρ c ⊢ wp frame (wpE (defs₀ (F := F)) 𝒱₀ (c : Thread nD τ) none) Set.univ (bodyAt (F := F)) (fun _ => bodyPost m ρ c) := by
  unfold bodyPre Φ₀ start
  rw [scopedRest0_eq]
  iintro ⟨⟨⟨HG, Hcr, Hlev⟩, ⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩,
    Ho, ⟨%d0, %g0, %hg0, Hx⟩, ⟨%d1, %g1, %hg1, Hq⟩, ⟨%d2, %g2, %hg2, Hk⟩, ⟨%d3, %g3, %hg3, Hv⟩, ⟨%d4, %g4, %hg4, Hw⟩, ⟨%d5, %g5, %hg5, Hr⟩⟩
  have h0 : g0 = (inp m ρ c).x := by rw [hg0]; unfold Dat.before; rw [if_pos (fetch_in 0)]; rfl
  have h1 : g1 = (inp m ρ c).wq := by rw [hg1]; unfold Dat.before; rw [if_pos (fetch_in 1)]; rfl
  have h2 : g2 = (inp m ρ c).wk := by rw [hg2]; unfold Dat.before; rw [if_pos (fetch_in 2)]; rfl
  have h3 : g3 = (inp m ρ c).wv := by rw [hg3]; unfold Dat.before; rw [if_pos (fetch_in 3)]; rfl
  have h4 : g4 = (inp m ρ c).wo := by rw [hg4]; unfold Dat.before; rw [if_pos (fetch_in 4)]; rfl
  subst h0 h1 h2 h3 h4
  unfold Dat.owesAt Pipeline.owesWithin
  icases Ho with ⟨%W, %hW, HO⟩
  rw [show (dats m ρ 0 c).owed t0_0.castSucc = O₀ c from rfl]
  ihave HL0 := (land_intro c false f4 f8) $$ [S4 S8]
  · isplitl [S4] <;> iassumption
  icases HL0 with ⟨HL0, A0, A1⟩
  ihave HL1 := (land_intro c true f5 f9) $$ [S5 S9]
  · isplitl [S5] <;> iassumption
  icases HL1 with ⟨HL1, B0, B1⟩
  ihave S6' := (Entails.of_eq ((cut3 c (sbM false) (whole_sb false) f6).trans (sep3 _))) $$ S6
  icases S6' with ⟨U0, U1, U2⟩
  ihave S7' := (Entails.of_eq ((cut3 c (sbM true) (whole_sb true) f7).trans (sep3 _))) $$ S7
  icases S7' with ⟨V0, V1, V2⟩
  ihave HH := (hello_intro (inp m ρ) c) $$ [HG Hcr Hlev HO HL0 HL1]
  · isplitl [HG]; · iexact HG
    isplitl [Hcr]; · iexact Hcr
    isplitl [Hlev]; · iexact Hlev
    isplitl [HO]; · iexists W; iexact HO
    isplitl [HL0] <;> iassumption
  icases HH with ⟨%K, HH⟩
  iapply (runs (inp m ρ) K c g5 f0 f1 f2 f3 (fun _ => f6) (fun _ => f7) (fun _ => f8) (fun _ => f9) fun _ => bodyPost m ρ c)
  isplitl [HH]; · iexact HH
  isplitl [Hx]; · iexact Hx
  isplitl [Hq]; · iexact Hq
  isplitl [Hk]; · iexact Hk
  isplitl [Hv]; · iexact Hv
  isplitl [Hw]; · iexact Hw
  isplitl [Hr]; · iexact Hr
  isplitl [S0]; · iexact S0
  isplitl [S1]; · iexact S1
  isplitl [S2]; · iexact S2
  isplitl [S3]; · iexact S3
  isplitl [U0]; · iexact U0
  isplitl [U1]; · iexact U1
  isplitl [U2]; · iexact U2
  isplitl [V0]; · iexact V0
  isplitl [V1]; · iexact V1
  isplitl [V2]; · iexact V2
  isplitl [A0]; · iexact A0
  isplitl [A1]; · iexact A1
  isplitl [B0]; · iexact B0
  isplitl [B1]; · iexact B1
  iintro ⟨HB, Hx, Hq, Hk, Hv, Hw, Hr, S0, S1, S2, S3, HA⟩
  ihave HE := (bye_out (inp m ρ) K c) $$ [HB S0 S1 S2 S3 HA]
  · isplitl [HB]; · iexact HB
    isplitl [S0]; · iexact S0
    isplitl [S1]; · iexact S1
    isplitl [S2]; · iexact S2
    isplitl [S3]; · iexact S3
    iexact HA
  icases HE with ⟨HΦ, ⟨%W', HO⟩⟩
  unfold bodyPost Dat.owesAt Pipeline.owesWithin
  isplitl [HΦ]; · iexact HΦ
  isplitl [HO]
  · iexists W'; isplitr
    · ipureintro; exact fun _ _ => Or.inl trivial
    · iexact HO
  isplitl [Hx]; · iexists _; isplitr; · (ipureintro; rfl)
                  iexact Hx
  isplitl [Hq]; · iexists _; isplitr; · (ipureintro; rfl)
                  iexact Hq
  isplitl [Hk]; · iexists _; isplitr; · (ipureintro; rfl)
                  iexact Hk
  isplitl [Hv]; · iexists _; isplitr; · (ipureintro; rfl)
                  iexact Hv
  isplitl [Hw]; · iexists _; isplitr; · (ipureintro; rfl)
                  iexact Hw
  iexists _; isplitr; · (ipureintro; rfl)
  iexact Hr

set_option maxRecDepth 100000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ (bodyAt (F := F)) (fun _ => bodyPost m ρ c)
  exact sound_body m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (CX (inp m ρ)) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro H
  iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters the kernel runs on all devices, and ends with the windows' arrays as computed and every counter
    at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (CX (inp m ρ))) (G' := G' (CX (inp m ρ))) (u₀ := u₀)
    (hu₀ := by
      unfold u₀
      iintro Hu
      ihave H := (ownU_pair _ _) $$ Hu
      icases H with ⟨HP, HX⟩
      imod (fund_ring (CX (inp m ρ))) $$ HX with HG
      imodintro
      isplitl [HP] <;> iassumption)
    (hglob := glob (CX (inp m ρ)))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Body
-- ==== Proof.Frames.lean ====
/-
  The frame: the run leaves the arguments as launched and every counter at zero; and what it leaves in the result.
-/
module

public import proofs.«01_k».proof.Proof.Launch

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- The run, read at the argument arrays and at the counters. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨(h.1 c 0).trans ((dats m ρ 0 c).arrAt_in 0 rfl _), (h.1 c 1).trans ((dats m ρ 0 c).arrAt_in 1 rfl _),
      (h.1 c 2).trans ((dats m ρ 0 c).arrAt_in 2 rfl _), (h.1 c 3).trans ((dats m ρ 0 c).arrAt_in 3 rfl _),
      (h.1 c 4).trans ((dats m ρ 0 c).arrAt_in 4 rfl _)⟩, h.2⟩) (run_main m ρ)

end Cert.KernelIdeal.Body
-- ==== Proof.Word.Val8.lean ====
/-
  What the eighth stretch computed: the own chunk.
-/
module

public import proofs.«01_k».proof.Proof.Word.Run8

@[expose] public section

noncomputable section

namespace Cert.Kernel.Body

open Cert.Kernel Cert.Kernel.Gen Cert.Kernel.Talk Cert.Kernel.Vals
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (c : Dev nD)

set_option maxHeartbeats 4000000

/-- The own chunk. -/
theorem chunk8 : run8.sl.v1077 I c = part (I c) (c) := by
  refine Eq.trans (b := rowsPart (I c) ((Memref.whole cc0_stg0_0).view.readAt (Elt F) (Rect.unit (s := S2048x1024) (k0_off5 c) S512x1024.size (k0_off5_inb c)).toLoadRect (I c).x) ((Memref.whole cc0_scratch0).view.readAt (Elt F) (Rect.unit (s := S2048x128) (k0_off6 c) S512x128.size (k0_off6_inb c)).toLoadRect cosT) ((Memref.whole cc0_scratch1).view.readAt (Elt F) (Rect.unit (s := S2048x128) (k0_off6 c) S512x128.size (k0_off6_inb c)).toLoadRect sinT)
    (keyHead I c) (valHead I c)) rfl ?_
  exact part_read (I c) (c) ((k0_off5_eq c)) ((k0_off6_eq c)) _ _ _ _ rfl rfl _ _ (fun n => rfl) (fun n => rfl)

end Cert.Kernel.Body
-- ==== Proof.Consts.lean ====
/-
  The float constants the programs spell, as extended reals.
-/
module

public import Idealize.ShloMosaic.PureOps.Ideal

@[expose] public section

noncomputable section

namespace Cert.Consts

open Idealize.ShloMosaic

theorem bits_neg_one : Ideal.ofBits .f32 0xBF800000#32 = -1 := by
  rw [show (-1 : EReal) = ((-1 : ℝ) : EReal) from (EReal.coe_neg 1).symm]
  simp [Ideal.ofBits, Ideal.ieee, -EReal.coe_mul, -EReal.coe_neg]; norm_num
theorem bits_128 : Ideal.ofBits .f32 0x43000000#32 = ((128 : ℝ) : EReal) := by
  simp [Ideal.ofBits, Ideal.ieee, -EReal.coe_mul]; norm_num
theorem bits_10000 : Ideal.ofBits .f32 0x461C4000#32 = ((10000 : ℝ) : EReal) := by
  simp [Ideal.ofBits, Ideal.ieee, -EReal.coe_mul]; norm_num
theorem bits_bot : Ideal.ofBits .f32 0xFF800000#32 = ⊥ := by simp [Ideal.ofBits, Ideal.ieee]
theorem bits_top : Ideal.ofBits .f32 0x7F800000#32 = ⊤ := by simp [Ideal.ofBits, Ideal.ieee]
/-- The scale of the scores is a real number. -/
theorem bits_scale : ∃ v : ℝ, Ideal.ofBits .f32 0x3DB504F3#32 = v := by
  have h : Ideal.ofBits .f32 0x3DB504F3#32 = (((1 : ℝ) * ((2 ^ 23 + 3474675 : ℕ) : ℝ) * (2 : ℝ) ^ (-27 : ℤ) : ℝ) : EReal) := by
    simp [Ideal.ofBits, Ideal.ieee, -EReal.coe_mul]
  exact ⟨_, h⟩

end Cert.Consts

end
-- ==== Proof.Tables.lean ====
/-
  The three tables at an index: the matrix of the pair swap, and the cosines and sines of the angles.
-/
module

public import proofs.«01_k».proof.Proof.Vals
public import proofs.«01_k».proof.Proof.Consts
public import Idealize.ShloMosaic.Lib.Pointwise

@[expose] public section

noncomputable section

namespace Cert.KernelIdeal.Vals

open Cert.KernelIdeal Cert.KernelIdeal.Gen Cert.KernelIdeal.Talk
open Idealize.ShloMosaic
open Idealize.ShloMosaic.TcCoe

set_option maxRecDepth 16384

/-- The word of a column's pair, as the kernel divides it out. -/
def pairWord (b : BitVec 32) : BitVec 32 :=
  Scalar.select
    (IntOp.andi
      (IntOp.cmpi CmpIPredicate.ne
        (IntOp.subi (BitVec.setWidth 32 (IntOp.cmpi CmpIPredicate.sgt b 0#32)) (BitVec.setWidth 32 (IntOp.cmpi CmpIPredicate.slt b 0#32)))
        (Scalar.subi (Scalar.extui (Scalar.cmpi CmpIPredicate.sgt 2#32 0#32)) (Scalar.extui (Scalar.cmpi CmpIPredicate.slt 2#32 0#32))))
      (IntOp.cmpi CmpIPredicate.ne (IntOp.remsi ArithUnit.vector b 2#32) 0#32))
    (IntOp.subi (IntOp.divsi ArithUnit.vector b 2#32) 1#32)
    (IntOp.divsi ArithUnit.vector b 2#32)

theorem pairWord_toInt : ∀ b : Fin 128, (pairWord (BitVec.ofNat 32 b.val)).toInt = ((b.val / 2 : ℕ) : ℤ) := by decide +kernel

/-- The kernel's angle. -/
def angK (p : Fin 2048) (d : Fin 128) : EReal :=
  FloatOps.sitofp (F := Ideal) FTy.f32 (BitVec.ofNat 32 p.val) *
    Ideal.exp (FloatOps.sitofp (F := Ideal) FTy.f32 (pairWord (BitVec.ofNat 32 d.val)) * Named.named (F := Ideal) κ "rope_rate" 3188940174#32)

theorem cosT_at (p : Fin 2048) (d : Fin 128) : cosT (F := Ideal) (ix2 p d) = Ideal.cos (angK p d) := by
  pointwise [cosT, k0_pay7, k0_pay6, k0_pay3, k0_pay4, k0_pay5]
  rfl
theorem sinT_at (p : Fin 2048) (d : Fin 128) : sinT (F := Ideal) (ix2 p d) = Ideal.sin (angK p d) := by
  pointwise [sinT, k0_pay8, k0_pay6, k0_pay3, k0_pay4, k0_pay5]
  rfl

/-- The angle is a real number: the row times a power of ten thousand. -/
theorem angK_eq (p : Fin 2048) (d : Fin 128) :
    angK p d = (((p.val : ℝ) * Real.exp (((d.val / 2 : ℕ) : ℝ) * -(64⁻¹ * Real.log 10000)) : ℝ) : EReal) := by
  have hp : (BitVec.ofNat 32 p.val).toInt = (p.val : ℤ) := by
    have := p.isLt
    rw [BitVec.toInt_ofNat', Int.bmod_eq_of_le] <;> omega
  have e1 : FloatOps.sitofp (F := Ideal) FTy.f32 (BitVec.ofNat 32 p.val) = ((p.val : ℝ) : EReal) := by
    show ((((BitVec.ofNat 32 p.val).toInt : ℤ) : ℝ) : EReal) = _
    rw [hp]; norm_cast
  have e2 : FloatOps.sitofp (F := Ideal) FTy.f32 (pairWord (BitVec.ofNat 32 d.val)) = (((d.val / 2 : ℕ) : ℝ) : EReal) := by
    show ((((pairWord (BitVec.ofNat 32 d.val)).toInt : ℤ) : ℝ) : EReal) = _
    rw [pairWord_toInt]; norm_cast
  have e3 : Named.named (F := Ideal) κ (φ := .f32) "rope_rate" 3188940174#32 = ((-(64⁻¹ * Real.log 10000) : ℝ) : EReal) := rfl
  unfold angK
  rw [e1, e2, e3, ← EReal.coe_mul, Ideal.exp_coe, ← EReal.coe_mul]

/-- The swap matrix at an index, decided word by word. -/
def swapWord1 (a b : BitVec 32) : BitVec 1 :=
  IntOp.andi
    (IntOp.cmpi CmpIPredicate.eq
      (Scalar.select
        (IntOp.andi
          (IntOp.xori
            (IntOp.cmpi CmpIPredicate.slt
              (IntOp.remsi ArithUnit.vector b (Scalar.select (Scalar.cmpi CmpIPredicate.eq 2#32 0#32) 1#32 2#32)) 0#32)
            (Scalar.cmpi CmpIPredicate.slt (Scalar.select (Scalar.cmpi CmpIPredicate.eq 2#32 0#32) 1#32 2#32) 0#32))
          (IntOp.cmpi CmpIPredicate.ne
            (IntOp.remsi ArithUnit.vector b (Scalar.select (Scalar.cmpi CmpIPredicate.eq 2#32 0#32) 1#32 2#32)) 0#32))
        (IntOp.addi
          (IntOp.remsi ArithUnit.vector b (Scalar.select (Scalar.cmpi CmpIPredicate.eq 2#32 0#32) 1#32 2#32))
          (Scalar.select (Scalar.cmpi CmpIPredicate.eq 2#32 0#32) 1#32 2#32))
        (IntOp.remsi ArithUnit.vector b (Scalar.select (Scalar.cmpi CmpIPredicate.eq 2#32 0#32) 1#32 2#32)))
      a)
    1#1

/-- The parity of a column, as the kernel takes it. -/
theorem swapWord1_eq : ∀ (b : Fin 256) (a : Fin 2), swapWord1 (BitVec.ofNat 32 a.val) (BitVec.ofNat 32 b.val) = BitVec.ofBool (decide (b.val % 2 = a.val)) := by
  decide +kernel

theorem cmp_add (a b : Fin 256) : IntOp.cmpi CmpIPredicate.eq (BitVec.ofNat 32 a.val) (IntOp.addi (BitVec.ofNat 32 b.val) 1#32) = BitVec.ofBool (decide (a.val = b.val + 1)) := by
  have ha := a.isLt; have hb := b.isLt
  show BitVec.ofBool (BitVec.ofNat 32 a.val == BitVec.ofNat 32 b.val + 1#32) = _
  congr 1
  rw [Bool.eq_iff_iff, beq_iff_eq, decide_eq_true_iff, ← BitVec.toNat_inj]
  simp only [BitVec.toNat_ofNat, BitVec.toNat_add]
  omega
theorem cmp_sub (a b : Fin 256) (h : b.val % 2 = 1) : IntOp.cmpi CmpIPredicate.eq (BitVec.ofNat 32 a.val) (IntOp.subi (BitVec.ofNat 32 b.val) 1#32) = BitVec.ofBool (decide (a.val = b.val - 1)) := by
  have ha := a.isLt; have hb := b.isLt
  show BitVec.ofBool (BitVec.ofNat 32 a.val == BitVec.ofNat 32 b.val - 1#32) = _
  congr 1
  rw [Bool.eq_iff_iff, beq_iff_eq, decide_eq_true_iff, ← BitVec.toNat_inj]
  simp only [BitVec.toNat_ofNat, BitVec.toNat_sub]
  omega

theorem rotM_at (a b : Fin 256) : rotM (F := Ideal) (ix2 a b)
    = (if b.val % 2 = 0 ∧ a.val = b.val + 1 then -1 else 0) + (if b.val % 2 = 1 ∧ a.val = b.val - 1 then 1 else 0) := by
  have h0 := swapWord1_eq b 0
  have h1 := swapWord1_eq b 1
  pointwise [rotM, k0_pay2, k0_pay1]
  rw [Consts.bits_neg_one, cmp_add]
  have key (c : BitVec 1) : IntOp.andi c 1#1 = c := by revert c; decide
  simp only [swapWord1, key] at h0 h1
  congr 1
  · erw [h0]
    by_cases e : b.val % 2 = 0 <;> by_cases e' : a.val = b.val + 1 <;> simp [e, e', Scalar.select, IntOp.andi]
  · erw [h1]
    by_cases e : b.val % 2 = 1
    · rw [cmp_sub _ _ e]
      by_cases e' : a.val = b.val - 1 <;> simp [e, e', Scalar.select, IntOp.andi]
    · simp [e, Scalar.select, IntOp.andi]

/-- A row times the swap matrix. -/
theorem sum_rot (f : Fin 256 → EReal) (b : Fin 256) :
    ∑ x, f x * rotM (F := Ideal) (ix2 x b) = if h : b.val % 2 < 1 then -f ⟨b.val / 2 * 2 + 1, by omega⟩ else f ⟨b.val / 2 * 2, by omega⟩ := by
  simp only [rotM_at]
  split
  · next h =>
    rw [Finset.sum_eq_single (⟨b.val / 2 * 2 + 1, by omega⟩ : Fin 256)]
    · rw [if_pos ⟨by omega, by simp only; omega⟩, if_neg (by omega), add_zero, mul_neg, mul_one]
    · intro x _ hx
      rw [if_neg (fun e => hx (Fin.ext (by simp only; omega))), if_neg (by omega), add_zero, mul_zero]
    · intro h; exact absurd (Finset.mem_univ _) h
  · next h =>
    rw [Finset.sum_eq_single (⟨b.val / 2 * 2, by omega⟩ : Fin 256)]
    · rw [if_neg (by omega), if_pos ⟨by omega, by simp only; omega⟩, zero_add, mul_one]
    · intro x _ hx
      rw [if_neg (by omega), if_neg (fun e => hx (Fin.ext (by simp only; omega))), add_zero, mul_zero]
    · intro h; exact absurd (Finset.mem_univ _) h

end Cert.KernelIdeal.Vals

end
-- ==== Proof.Heads.lean ====
/-
  One attention head over the extended reals, as each side computes it.

  `ctxR` is the reference's: scores scaled after the product of queries and keys, the softmax with the row's maximum
  taken out, every weight divided by the sum. `ctxK` is the kernel's: queries scaled before they are rotated, plain
  exponentials, the weighted sum multiplied by the sum's inverse. Where the scores are real numbers the two agree
  (`ctx_eq`), whatever the values are.
-/
module

public import Idealize.ShloMosaic.PureOps.Ideal

@[expose] public section

noncomputable section

namespace Cert.Heads

open Idealize.ShloMosaic

/-- Rows of `x` times the columns of one head. -/
def proj (X : Fin 2048 → Fin 1024 → EReal) (w : Fin 1024 → Fin 128 → EReal) (r : Fin 2048) (d : Fin 128) : EReal :=
  ∑ k, X r k * w k d

/-- The two entries of every pair swapped, the one that comes first negated. -/
def swap (f : Fin 128 → EReal) (d : Fin 128) : EReal :=
  if h : d.val % 2 < 1 then -f ⟨d.val / 2 * 2 + 1, by omega⟩ else f ⟨d.val / 2 * 2, by omega⟩

/-- A row turned by its angles. -/
def turn (C S : Fin 2048 → Fin 128 → EReal) (f : Fin 2048 → Fin 128 → EReal) (r : Fin 2048) (d : Fin 128) : EReal :=
  f r d * C r d + swap (f r) d * S r d

variable (X : Fin 2048 → Fin 1024 → EReal) (C S : Fin 2048 → Fin 128 → EReal) (sc : EReal) (wq wk wv : Fin 1024 → Fin 128 → EReal)

def scoreR (a t : Fin 2048) : EReal := (∑ d, turn C S (proj X wq) a d * turn C S (proj X wk) t d) * sc

def ctxR (a : Fin 2048) (d : Fin 128) : EReal :=
  ∑ t, proj X wv t d *
    Ideal.div (Ideal.exp (scoreR X C S sc wq wk a t - Finset.fold max (Ideal.ofBits .f32 0xFF800000#32) (fun u => scoreR X C S sc wq wk a u) Finset.univ))
      (∑ v, Ideal.exp (scoreR X C S sc wq wk a v - Finset.fold max (Ideal.ofBits .f32 0xFF800000#32) (fun u => scoreR X C S sc wq wk a u) Finset.univ))

def scoreK (a t : Fin 2048) : EReal := ∑ d, turn C S (fun r d => proj X wq r d * sc) a d * turn C S (proj X wk) t d

def ctxK (a : Fin 2048) (d : Fin 128) : EReal :=
  (∑ t, Ideal.exp (scoreK X C S sc wq wk a t) * proj X wv t d) * Ideal.div 1 (∑ t, Ideal.exp (scoreK X C S sc wq wk a t))

/-! ## Real entries -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The product of a nonnegative real with a sum. -/
theorem mul_sum {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s h ih =>
    rw [Finset.sum_insert h, Finset.sum_insert h, ← ih]
    exact EReal.right_distrib_of_nonneg_of_ne_top (by exact_mod_cast hc) (EReal.coe_ne_top c) _ _

/-- Real functions, in the same words. -/
def rproj (x : Fin 2048 → Fin 1024 → ℝ) (w : Fin 1024 → Fin 128 → ℝ) (r : Fin 2048) (d : Fin 128) : ℝ := ∑ k, x r k * w k d
def rswap (f : Fin 128 → ℝ) (d : Fin 128) : ℝ :=
  if h : d.val % 2 < 1 then -f ⟨d.val / 2 * 2 + 1, by omega⟩ else f ⟨d.val / 2 * 2, by omega⟩
def rturn (C S : Fin 2048 → Fin 128 → ℝ) (f : Fin 2048 → Fin 128 → ℝ) (r : Fin 2048) (d : Fin 128) : ℝ :=
  f r d * C r d + rswap (f r) d * S r d

theorem proj_coe (x : Fin 2048 → Fin 1024 → ℝ) (w : Fin 1024 → Fin 128 → ℝ) (r d) :
    proj (fun r k => (x r k : EReal)) (fun k d => (w k d : EReal)) r d = (rproj x w r d : EReal) := by
  unfold proj rproj
  rw [coe_sum]
  exact Finset.sum_congr rfl fun k _ => (EReal.coe_mul _ _).symm

theorem swap_coe (f : Fin 128 → ℝ) (d) : swap (fun d => (f d : EReal)) d = (rswap f d : EReal) := by
  unfold swap rswap
  split
  · exact (EReal.coe_neg _).symm
  · rfl

theorem turn_coe (c s f : Fin 2048 → Fin 128 → ℝ) (r d) :
    turn (fun r d => (c r d : EReal)) (fun r d => (s r d : EReal)) (fun r d => (f r d : EReal)) r d = (rturn c s f r d : EReal) := by
  unfold turn rturn
  rw [swap_coe, EReal.coe_add, EReal.coe_mul, EReal.coe_mul]

theorem rturn_mul (c s f : Fin 2048 → Fin 128 → ℝ) (k : ℝ) (r d) : rturn c s (fun r d => f r d * k) r d = rturn c s f r d * k := by
  unfold rturn rswap
  split <;> ring

/-- The scores of either side are the same real numbers. -/
theorem scores (x : Fin 2048 → Fin 1024 → ℝ) (c s : Fin 2048 → Fin 128 → ℝ) (k : ℝ) (q w : Fin 1024 → Fin 128 → ℝ) (a t : Fin 2048) :
    ∃ z : ℝ, scoreK (fun r k => (x r k : EReal)) (fun r d => (c r d : EReal)) (fun r d => (s r d : EReal)) (k : EReal)
        (fun k d => (q k d : EReal)) (fun k d => (w k d : EReal)) a t = z
      ∧ scoreR (fun r k => (x r k : EReal)) (fun r d => (c r d : EReal)) (fun r d => (s r d : EReal)) (k : EReal)
        (fun k d => (q k d : EReal)) (fun k d => (w k d : EReal)) a t = z := by
  refine ⟨∑ d, rturn c s (rproj x q) a d * k * rturn c s (rproj x w) t d, ?_, ?_⟩
  · unfold scoreK
    rw [coe_sum]
    refine Finset.sum_congr rfl fun d _ => ?_
    have e : (fun r d => proj (fun r k => (x r k : EReal)) (fun k d => (q k d : EReal)) r d * (k : EReal)) = fun r d => ((rproj x q r d * k : ℝ) : EReal) :=
      funext fun r => funext fun d => by rw [proj_coe, EReal.coe_mul]
    have e' : proj (fun r k => (x r k : EReal)) (fun k d => (w k d : EReal)) = fun r d => (rproj x w r d : EReal) := funext fun r => funext fun d => proj_coe ..
    rw [e, e', turn_coe, turn_coe, rturn_mul, EReal.coe_mul, EReal.coe_mul, EReal.coe_mul]
  · unfold scoreR
    have e (q : Fin 1024 → Fin 128 → ℝ) : proj (fun r k => (x r k : EReal)) (fun k d => (q k d : EReal)) = fun r d => (rproj x q r d : EReal) :=
      funext fun r => funext fun d => proj_coe ..
    rw [e, e]
    simp only [turn_coe, ← EReal.coe_mul, ← coe_sum]
    rw [Finset.sum_mul]
    congr 1
    exact Finset.sum_congr rfl fun d _ => by ring

/-- The largest of real numbers, from `-∞` on. -/
theorem fold_max_real (f : Fin 2048 → ℝ) : ∃ M : ℝ, Finset.fold max (⊥ : EReal) (fun t => (f t : EReal)) Finset.univ = M := by
  have h1 : Finset.fold max (⊥ : EReal) (fun t => (f t : EReal)) Finset.univ < ⊤ :=
    (Finset.fold_max_lt _).2 ⟨bot_lt_top, fun t _ => EReal.coe_lt_top _⟩
  have h2 : ⊥ < Finset.fold max (⊥ : EReal) (fun t => (f t : EReal)) Finset.univ :=
    (Finset.lt_fold_max _).2 (.inr ⟨0, Finset.mem_univ _, EReal.bot_lt_coe _⟩)
  exact ⟨_, (EReal.coe_toReal h1.ne h2.ne').symm⟩

/-- The softmax, with and without the maximum taken out. -/
theorem softmax {ι : Type} [Fintype ι] [Inhabited ι] (f : ι → ℝ) (V : ι → EReal) (M : ℝ) :
    (∑ t, Ideal.exp (f t : EReal) * V t) * Ideal.div 1 (∑ t, Ideal.exp (f t : EReal))
      = ∑ t, V t * Ideal.div (Ideal.exp ((f t : EReal) - (M : EReal))) (∑ v, Ideal.exp ((f v : EReal) - (M : EReal))) := by
  have hZ : 0 < ∑ t, Real.exp (f t) := Finset.sum_pos (fun t _ => Real.exp_pos _) ⟨default, Finset.mem_univ _⟩
  have hZ' : 0 < ∑ t, Real.exp (f t - M) := Finset.sum_pos (fun t _ => Real.exp_pos _) ⟨default, Finset.mem_univ _⟩
  have e1 : ∑ t, Ideal.exp (f t : EReal) = ((∑ t, Real.exp (f t) : ℝ) : EReal) := by rw [coe_sum]; rfl
  have e2 : ∑ t, Ideal.exp ((f t : EReal) - (M : EReal)) = ((∑ t, Real.exp (f t - M) : ℝ) : EReal) := by
    rw [coe_sum]; rfl
  have d1 {y : ℝ} (x : ℝ) (hy : 0 < y) : Ideal.div (x : EReal) (y : EReal) = ((x / y : ℝ) : EReal) := by
    unfold Ideal.div
    rw [if_neg (by exact_mod_cast hy.ne'), div_eq_mul_inv, EReal.coe_mul, EReal.coe_inv]
  rw [e1, e2, show (1 : EReal) = ((1 : ℝ) : EReal) from rfl, d1 _ hZ, mul_sum _ _ (by positivity)]
  refine Finset.sum_congr rfl fun t _ => ?_
  rw [← EReal.coe_sub, Ideal.exp_coe, Ideal.exp_coe, d1 _ hZ', mul_comm _ (V t), mul_assoc, ← EReal.coe_mul]
  congr 2
  have e3 : ∑ v, Real.exp (f v - M) = (∑ v, Real.exp (f v)) * Real.exp (-M) := by
    rw [Finset.sum_mul]; exact Finset.sum_congr rfl fun v _ => by rw [← Real.exp_add, sub_eq_add_neg]
  rw [e3, sub_eq_add_neg, Real.exp_add, mul_div_mul_right _ _ (Real.exp_pos _).ne', mul_one_div]

/-- A head's contexts agree. -/
theorem ctx_eq (hbot : Ideal.ofBits .f32 0xFF800000#32 = ⊥) (hX : ∀ r k, ∃ v : ℝ, X r k = v) (hC : ∀ r d, ∃ v : ℝ, C r d = v) (hS : ∀ r d, ∃ v : ℝ, S r d = v)
    (hsc : ∃ v : ℝ, sc = v) (hq : ∀ k d, ∃ v : ℝ, wq k d = v) (hk : ∀ k d, ∃ v : ℝ, wk k d = v) (a : Fin 2048) (d : Fin 128) :
    ctxK X C S sc wq wk wv a d = ctxR X C S sc wq wk wv a d := by
  choose x hx using hX
  choose c hc using hC
  choose s hs using hS
  obtain ⟨k, rfl⟩ := hsc
  choose q hq using hq
  choose w hw using hk
  obtain rfl : X = fun r k => (x r k : EReal) := funext fun r => funext fun k => hx r k
  obtain rfl : C = fun r k => (c r k : EReal) := funext fun r => funext fun k => hc r k
  obtain rfl : S = fun r k => (s r k : EReal) := funext fun r => funext fun k => hs r k
  obtain rfl : wq = fun r k => (q r k : EReal) := funext fun r => funext fun k => hq r k
  obtain rfl : wk = fun r k => (w r k : EReal) := funext fun r => funext fun k => hw r k
  choose z hz hz' using fun t => scores x c s k q w a t
  obtain ⟨M, hM⟩ := fold_max_real z
  unfold ctxK ctxR
  simp only [hz, hz']
  rw [hbot, hM]
  exact softmax z _ M

end Cert.Heads

end
-- ==== Proof.Parts.lean ====
/-
  A device's part of the result, entry by entry: the contexts of its eight heads times its rows of the output
  projection; and the result, the sum of the four devices' parts.
-/
module

public import proofs.«01_k».proof.Proof.Tables
public import proofs.«01_k».proof.Proof.Heads

@[expose] public section

noncomputable section

namespace Cert.KernelIdeal.Vals

open Cert.KernelIdeal Cert.KernelIdeal.Gen Cert.KernelIdeal.Talk Cert.Heads
open Idealize.ShloMosaic
open Idealize.ShloMosaic.TcCoe

set_option maxRecDepth 16384

/-- The columns of the local head `h`. -/
def lcol (W : Vec Ideal S1024x1024 .f32) (h : Fin 8) (k : Fin 1024) (d : Fin 128) : EReal := W (ix2 k ⟨h.val * 128 + d.val, by omega⟩)

/-- The kernel's cosines and sines. -/
def kC (p : Fin 2048) (d : Fin 128) : EReal := Ideal.cos (angK p d)
def kS (p : Fin 2048) (d : Fin 128) : EReal := Ideal.sin (angK p d)
/-- `x` by rows. -/
def rx (I : In Ideal) (r : Fin 2048) (k : Fin 1024) : EReal := I.x (ix2 r k)

/-- An index of a matrix by its two coordinates. -/
theorem at_eq {n m : ℕ} (i : (⟨2, ![n, m]⟩ : Shape).Idx) (a : Fin n) (b : Fin m) (h0 : (i (0 : Fin 2)).val = a.val) (h1 : (i (1 : Fin 2)).val = b.val) :
    i = ix2 a b := (eq_ix2 i).trans (congrArg₂ ix2 (Fin.ext h0) (Fin.ext h1))

theorem cols_at (W : Vec Ideal S1024x1024 .f32) (j : Fin 4) (k : Fin 1024) (b : Fin 256) :
    cols W j (ix2 k b) = W (ix2 k ⟨256 * j.val + b.val, by omega⟩) :=
  congrArg W (at_eq _ k ⟨256 * j.val + b.val, by omega⟩ (by show 0 + 1 * k.val = k.val; omega) (by show 256 * j.val + 1 * b.val = 256 * j.val + b.val; omega))
theorem prows_at (W : Vec Ideal S1024x1024 .f32) (j : Fin 4) (a : Fin 256) (b : Fin 1024) :
    prows W j (ix2 a b) = W (ix2 ⟨256 * j.val + a.val, by omega⟩ b) :=
  congrArg W (at_eq _ ⟨256 * j.val + a.val, by omega⟩ b (by show 256 * j.val + 1 * a.val = 256 * j.val + a.val; omega) (by show 0 + 1 * b.val = b.val; omega))

/-- Row `a` of chunk `e`. -/
def rowOf (e : Dev nD) (a : Fin 512) : Fin 2048 := ⟨512 * e.val + a.val, by have : e.val < 4 := e.isLt; omega⟩

theorem rowsX_at (I : In Ideal) (e : Dev nD) (a : Fin 512) (k : Fin 1024) : rowsX I e (ix2 a k) = rx I (rowOf e a) k :=
  congrArg I.x (at_eq _ (rowOf e a) k (by show 512 * e.val + 1 * a.val = 512 * e.val + a.val; omega) (by show 0 + 1 * k.val = k.val; omega))
theorem rowsT_at (T : FVec Ideal S2048x128 .f32) (e : Dev nD) (a : Fin 512) (d : Fin 128) : rowsT T e (ix2 a d) = T (ix2 (rowOf e a) d) :=
  congrArg T (at_eq _ (rowOf e a) d (by show 512 * e.val + 1 * a.val = 512 * e.val + a.val; omega) (by show 0 + 1 * d.val = d.val; omega))
theorem head_at (T : Vec Ideal S2048x1024 .bf16) (h : Fin 8) (t : Fin 2048) (d : Fin 128) :
    head T h (ix2 t d) = T (ix2 t ⟨128 * h.val + d.val, by omega⟩) :=
  congrArg T (at_eq _ t ⟨128 * h.val + d.val, by omega⟩ (by show 0 + 1 * t.val = t.val; omega) (by show 128 * h.val + 1 * d.val = 128 * h.val + d.val; omega))

/-! ## Two heads at once -/

theorem half_if (f : Fin 128 → EReal) (b : Fin 256) :
    (if h : b.val < 128 then f ⟨b.val, h⟩ else f ⟨b.val - 128, by omega⟩) = f ⟨b.val % 128, by omega⟩ := by
  split <;> exact congrArg f (Fin.ext (by simp only; omega))

/-- Two heads' columns turned together are each turned. -/
theorem turn_half (f : Fin 256 → EReal) (C S g : Fin 128 → EReal) (b : Fin 256) (hg : ∀ d : Fin 128, f ⟨b.val / 128 * 128 + d.val, by omega⟩ = g d) :
    f b * (if h : b.val < 128 then C ⟨b.val, h⟩ else C ⟨b.val - 128, by omega⟩)
        + (if h : b.val % 2 < 1 then -f ⟨b.val / 2 * 2 + 1, by omega⟩ else f ⟨b.val / 2 * 2, by omega⟩)
          * (if h : b.val < 128 then S ⟨b.val, h⟩ else S ⟨b.val - 128, by omega⟩)
      = g ⟨b.val % 128, by omega⟩ * C ⟨b.val % 128, by omega⟩ + swap g ⟨b.val % 128, by omega⟩ * S ⟨b.val % 128, by omega⟩ := by
  have e (x : Fin 256) (d : Fin 128) (hx : x.val = b.val / 128 * 128 + d.val) : f x = g d := (congrArg f (Fin.ext hx)).trans (hg d)
  rw [half_if, half_if, e b ⟨b.val % 128, by omega⟩ (by simp only; omega)]
  congr 2
  unfold swap
  by_cases h : b.val % 2 < 1
  · rw [dif_pos h, dif_pos (show b.val % 128 % 2 < 1 by omega)]
    exact congrArg _ (e _ _ (by simp only; omega))
  · rw [dif_neg h, dif_neg (show ¬b.val % 128 % 2 < 1 by omega)]
    exact e _ _ (by simp only; omega)

theorem keyCols_at (I : In Ideal) (j : Fin 4) (t : Fin 2048) (b : Fin 256) :
    keyCols I j (ix2 t b) = turn kC kS (proj (rx I) (lcol I.wk ⟨2 * j.val + b.val / 128, by omega⟩)) t ⟨b.val % 128, by omega⟩ := by
  pointwise [keyCols, k0_pay15]
  rw [sum_rot]
  simp only [cosT_at, sinT_at]
  refine turn_half (fun b => ∑ x, I.x (ix2 t x) * cols I.wk j (ix2 x b)) (fun d => Ideal.cos (angK t d)) (fun d => Ideal.sin (angK t d)) _ b fun d => ?_
  refine Finset.sum_congr rfl fun k _ => congrArg (I.x (ix2 t k) * ·) ((cols_at ..).trans (congrArg I.wk (congrArg (ix2 k) (Fin.ext ?_))))
  simp only; omega

theorem valCols_at (I : In Ideal) (j : Fin 4) (t : Fin 2048) (b : Fin 256) :
    valCols I j (ix2 t b) = proj (rx I) (lcol I.wv ⟨2 * j.val + b.val / 128, by omega⟩) t ⟨b.val % 128, by omega⟩ := by
  pointwise [valCols, k0_pay14]
  refine Finset.sum_congr rfl fun k _ => congrArg (I.x (ix2 t k) * ·) ((cols_at ..).trans (congrArg I.wv (congrArg (ix2 k) (Fin.ext ?_))))
  simp only; omega

theorem pair_head (h : Fin 8) (d : Fin 128) : (⟨2 * ((128 * h.val + d.val) / 256) + (128 * h.val + d.val) % 256 / 128, by omega⟩ : Fin 8) = h :=
  Fin.ext (by simp only; omega)
theorem pair_col (h : Fin 8) (d : Fin 128) : (⟨(128 * h.val + d.val) % 256 % 128, by omega⟩ : Fin 128) = d := Fin.ext (by simp only; omega)

/-- The keys, as they are stored: local head `h`, row `t`, entry `d`. -/
theorem key_at (I : In Ideal) (h : Fin 8) (t : Fin 2048) (d : Fin 128) :
    head (keyT I) h (ix2 t d) = turn kC kS (proj (rx I) (lcol I.wk h)) t d := by
  refine (head_at ..).trans ((keyCols_at I ⟨(128 * h.val + d.val) / 256, by omega⟩ t ⟨(128 * h.val + d.val) % 256, by omega⟩).trans ?_)
  simp only [pair_head, pair_col]
theorem val_at (I : In Ideal) (h : Fin 8) (t : Fin 2048) (d : Fin 128) :
    head (valT I) h (ix2 t d) = proj (rx I) (lcol I.wv h) t d := by
  refine (head_at ..).trans ((valCols_at I ⟨(128 * h.val + d.val) / 256, by omega⟩ t ⟨(128 * h.val + d.val) % 256, by omega⟩).trans ?_)
  simp only [pair_head, pair_col]

/-- The scale of the scores. -/
def kSc : EReal := Ideal.ofBits .f32 0x3DB504F3#32

theorem qry_at (I : In Ideal) (e : Dev nD) (j : Fin 4) (a : Fin 512) (b : Fin 256) :
    qry I (rowsX I e) (rowsT cosT e) (rowsT sinT e) j (ix2 a b)
      = turn kC kS (fun r d => proj (rx I) (lcol I.wq ⟨2 * j.val + b.val / 128, by omega⟩) r d * kSc) (rowOf e a) ⟨b.val % 128, by omega⟩ := by
  have hc : ∀ d, rowsT (F := Ideal) cosT e (ix2 a d) = kC (rowOf e a) d := fun d => (rowsT_at ..).trans (cosT_at ..)
  have hs : ∀ d, rowsT (F := Ideal) sinT e (ix2 a d) = kS (rowOf e a) d := fun d => (rowsT_at ..).trans (sinT_at ..)
  generalize rowsT (F := Ideal) cosT e = rc at hc ⊢
  generalize rowsT (F := Ideal) sinT e = rs at hs ⊢
  pointwise [qry, k0_pay30, k0_pay25]
  rw [sum_rot (fun b => (∑ x, rowsX I e (ix2 a x) * cols I.wq j (ix2 x b)) * Ideal.ofBits FTy.f32 1035273459#32)]
  refine (turn_half (fun b => (∑ x, rowsX I e (ix2 a x) * cols I.wq j (ix2 x b)) * Ideal.ofBits FTy.f32 1035273459#32)
    (fun d => rc (ix2 a d)) (fun d => rs (ix2 a d)) (fun d => proj (rx I) (lcol I.wq ⟨2 * j.val + b.val / 128, by omega⟩) (rowOf e a) d * kSc) b fun d => ?_).trans ?_
  · refine congrArg (· * kSc) (Finset.sum_congr rfl fun k _ => congrArg₂ (· * ·) (rowsX_at ..) ((cols_at ..).trans (congrArg I.wq (congrArg (ix2 k) (Fin.ext ?_)))))
    simp only; omega
  · rw [hc, hs]; rfl

/-- One head's contexts. -/
def hctx (I : In Ideal) (h : Fin 8) : Fin 2048 → Fin 128 → EReal := ctxK (rx I) kC kS kSc (lcol I.wq h) (lcol I.wk h) (lcol I.wv h)

theorem attend_at (I : In Ideal) (e : Dev nD) (h : Fin 8) (q : FVec Ideal S512x128 .bf16) (a : Fin 512) (d : Fin 128)
    (hq : ∀ d, q (ix2 a d) = turn kC kS (fun r d => proj (rx I) (lcol I.wq h) r d * kSc) (rowOf e a) d) :
    attend q (head (keyT I) h) (head (valT I) h) (ix2 a d) = hctx I h (rowOf e a) d := by
  have hk := key_at I h
  have hv := val_at I h
  generalize head (keyT I) h = K at hk ⊢
  generalize head (valT I) h = V at hv ⊢
  pointwise [attend]
  simp only [hq, hk, hv]
  rfl

end Cert.KernelIdeal.Vals

end
-- ==== Proof.Total.lean ====
/-
  The sum of a device's heads, and of the four devices' parts.
-/
module

public import proofs.«01_k».proof.Proof.Parts

@[expose] public section

noncomputable section

namespace Cert.KernelIdeal.Vals

open Cert.KernelIdeal Cert.KernelIdeal.Gen Cert.KernelIdeal.Talk Cert.Heads
open Idealize.ShloMosaic
open Idealize.ShloMosaic.TcCoe

set_option maxRecDepth 16384

/-- What one head contributes to an entry of the result. -/
def hpart (I : In Ideal) (h : Fin 8) (r : Fin 2048) (n : Fin 1024) : EReal := ∑ d, hctx I h r d * I.wo (ix2 ⟨h.val * 128 + d.val, by omega⟩ n)

theorem pair_at (I : In Ideal) (e : Dev nD) (j : Fin 4) (a : Fin 512) (n : Fin 1024) :
    pairPart I (rowsX I e) (rowsT cosT e) (rowsT sinT e) (head (keyT I)) (head (valT I)) j (ix2 a n)
      = hpart I ⟨2 * j.val, by omega⟩ (rowOf e a) n + hpart I ⟨2 * j.val + 1, by omega⟩ (rowOf e a) n := by
  have hq := qry_at I e j a
  have h0 (d : Fin 128) := attend_at I e ⟨2 * j.val, by omega⟩
    (extractStridedSlice S512x128 ![0, 0] (qry I (rowsX I e) (rowsT cosT e) (rowsT sinT e) j) slices_S512x256_o0_0_S512x128) a d (by
      intro d
      pointwise []
      rw [hq]
      congr 1
      · simp only [show d.val / 128 = 0 by omega, Nat.add_zero]
      · exact Fin.ext (by simp only; omega))
  have h1 (d : Fin 128) := attend_at I e ⟨2 * j.val + 1, by omega⟩
    (extractStridedSlice S512x128 ![0, 128] (qry I (rowsX I e) (rowsT cosT e) (rowsT sinT e) j) slices_S512x256_o0_128_S512x128) a d (by
      intro d
      pointwise []
      rw [hq]
      congr 1
      · simp only [show (128 + d.val) / 128 = 1 by omega]
      · exact Fin.ext (by simp only; omega))
  unfold pairPart
  generalize attend (extractStridedSlice S512x128 ![0, 0] (qry I (rowsX I e) (rowsT cosT e) (rowsT sinT e) j) slices_S512x256_o0_0_S512x128)
    (head (keyT I) ⟨2 * j.val, by omega⟩) (head (valT I) ⟨2 * j.val, by omega⟩) = A at h0 ⊢
  generalize attend (extractStridedSlice S512x128 ![0, 128] (qry I (rowsX I e) (rowsT cosT e) (rowsT sinT e) j) slices_S512x256_o0_128_S512x128)
    (head (keyT I) ⟨2 * j.val + 1, by omega⟩) (head (valT I) ⟨2 * j.val + 1, by omega⟩) = B at h1 ⊢
  pointwise [k0_pay28]
  refine congrArg₂ (· + ·) (Finset.sum_congr rfl fun d _ => congrArg₂ (· * ·) (h0 d) ?_) (Finset.sum_congr rfl fun d _ => congrArg₂ (· * ·) (h1 d) ?_)
  · exact (prows_at ..).trans (congrArg I.wo (congrArg (ix2 · n) (Fin.ext (by simp only; omega))))
  · exact (prows_at ..).trans (congrArg I.wo (congrArg (ix2 · n) (Fin.ext (by simp only; omega))))

/-- A device's part of a chunk. -/
theorem part_at (I : In Ideal) (e : Dev nD) (a : Fin 512) (n : Fin 1024) : part I e (ix2 a n) = ∑ h, hpart I h (rowOf e a) n := by
  show ((pairPart I _ _ _ _ _ 0 (ix2 a n) + pairPart I _ _ _ _ _ 1 (ix2 a n)) + pairPart I _ _ _ _ _ 2 (ix2 a n)) + pairPart I _ _ _ _ _ 3 (ix2 a n) = _
  rw [pair_at, pair_at, pair_at, pair_at, Fin.sum_univ_eight]
  simp only [add_assoc]
  rfl

theorem half_at (d : Bool) (A : FVec Ideal S512x1024 .f32) (a : Fin 256) (n : Fin 1024) :
    half d A (ix2 a n) = A (ix2 ⟨(if d then 256 else 0) + a.val, by cases d <;> simp <;> omega⟩ n) := by
  cases d
  · pointwise [half]
    exact congrArg A (congrArg (ix2 · n) (Fin.ext (by simp)))
  · pointwise [half]

theorem round (d : Bool) (e : Dev nD) : back d 3 (src d e) = e ∧ back d 2 (src d (src d e)) = e ∧ src d (src d (src d (src d e))) = e := by
  revert d e; decide

theorem sum_round (f : Dev nD → EReal) (d : Bool) (e : Dev nD) : ((f (src d (src d (src d e))) + f (src d (src d e))) + f (src d e)) + f e = ∑ b, f b := by
  have h : ∀ (d : Bool) (e : Dev nD), (Finset.univ : Finset (Dev nD)) = {src d (src d (src d e)), src d (src d e), src d e, e} := by decide
  have h' : ∀ (d : Bool) (e : Dev nD), src d (src d (src d e)) ∉ ({src d (src d e), src d e, e} : Finset (Dev nD)) ∧ src d (src d e) ∉ ({src d e, e} : Finset (Dev nD))
      ∧ src d e ∉ ({e} : Finset (Dev nD)) := by decide
  obtain ⟨h1, h2, h3⟩ := h' d e
  rw [h d e, Finset.sum_insert h1, Finset.sum_insert h2, Finset.sum_insert h3, Finset.sum_singleton]
  simp only [add_assoc]

variable (I : Dev nD → In Ideal)

theorem fin_at (d : Bool) (e : Dev nD) (a : Fin 256) (n : Fin 1024) : fin I d e (ix2 a n) = ∑ b, half d (part (I b) e) (ix2 a n) := by
  obtain ⟨h1, h2, h3⟩ := round d e
  have e0 : fin I d e (ix2 a n) = ((half d (part (I (src d (src d (src d e)))) (src d (src d (src d (src d e))))) (ix2 a n)
      + half d (part (I (src d (src d e))) (back d 2 (src d (src d e)))) (ix2 a n)) + half d (part (I (src d e)) (back d 3 (src d e))) (ix2 a n))
      + half d (part (I e) e) (ix2 a n) := rfl
  rw [e0, h1, h2, h3]
  exact sum_round (fun b => half d (part (I b) e) (ix2 a n)) d e

/-- The result on every device. -/
theorem outT_at (c : Dev nD) (r : Fin 2048) (n : Fin 1024) : outT I c (ix2 r n) = ∑ b, ∑ h, hpart (I b) h r n := by
  have e0 : outT I c (ix2 r n) = fin I (decide (r.val % 512 / 256 = 1)) ⟨r.val / 512, by show _ < 4; omega⟩ (ix2 ⟨r.val % 256, by omega⟩ n) := by
    refine Eq.trans (b := fin I (decide (r.val % 512 / 256 = 1)) ⟨r.val / 512, by show _ < 4; omega⟩ (at2 ⟨r.val % 256, by omega⟩ n)) ?_
      (congrArg _ (at_eq _ _ _ rfl rfl))
    exact ite_self _
  rw [e0, fin_at]
  refine Finset.sum_congr rfl fun b _ => ?_
  rw [half_at, part_at]
  refine Finset.sum_congr rfl fun h _ => congrArg (hpart (I b) h · n) (Fin.ext ?_)
  show 512 * (r.val / 512) + ((if decide (r.val % 512 / 256 = 1) then 256 else 0) + r.val % 256) = r.val
  by_cases hh : r.val % 512 / 256 = 1
  · simp only [hh, decide_true, if_true]; omega
  · simp only [hh, decide_false]; simp only [Bool.false_eq_true, if_false]; omega

end Cert.KernelIdeal.Vals

end
-- ==== Proof.RefVal.lean ====
/-
  The reference's result, entry by entry: the contexts of all heads times the output projection.
-/
module

public import proofs.«01_k».proof.Proof.Gen.ReferenceIdeal.Run
public import proofs.«01_k».proof.Proof.Heads
public import Idealize.ShloMosaic.Lib.Pointwise
public import Idealize.ShloMosaic.Lib.Tactic.CleanTypes

@[expose] public section

noncomputable section

namespace Cert.ReferenceIdeal.Value

open Cert.ReferenceIdeal Cert.ReferenceIdeal.Gen Cert.Heads
open Idealize.ShloMosaic Idealize.ShloMosaic.TcCoe Idealize.SL.Sem Idealize.ShloMosaic.StableHlo

/-- The reference's angle for a row and a pair of columns. -/
def angR (p : Fin 2048) (d : Fin 128) : EReal :=
  FloatOps.sitofp (F := Ideal) FTy.f32 (BitVec.ofNat 32 p.val) *
    Ideal.div 1 (Ideal.pow (Ideal.ofBits .f32 0x461C4000#32)
      (Ideal.div (FloatOps.sitofp (F := Ideal) FTy.f32 (IntOp.addi (0#32) (IntOp.muli (2#32) (BitVec.ofNat 32 (d.val / 2)))))
        (Ideal.ofBits .f32 0x43000000#32)))

/-- The columns of head `h` of a projection. -/
def hcol (W : (⟨2, ![1024, 4096]⟩ : Shape).Idx → EReal) (h : Fin 32) (k : Fin 1024) (d : Fin 128) : EReal := W (ix2 k ⟨h.val * 128 + d.val, by omega⟩)

/-- The reference's result as a function of its arguments. -/
def refAt (x : (⟨2, ![2048, 1024]⟩ : Shape).Idx → EReal) (wq wk wv : (⟨2, ![1024, 4096]⟩ : Shape).Idx → EReal)
    (wo : (⟨2, ![4096, 1024]⟩ : Shape).Idx → EReal) (a : Fin 2048) (b : Fin 1024) : EReal :=
  ∑ i : Fin 4096, ctxR (fun r k => x (ix2 r k)) (fun p d => Ideal.cos (angR p d)) (fun p d => Ideal.sin (angR p d)) (Ideal.ofBits .f32 0x3DB504F3#32)
    (hcol wq ⟨i.val / 128, by omega⟩) (hcol wk ⟨i.val / 128, by omega⟩) (hcol wv ⟨i.val / 128, by omega⟩) a ⟨i.val % 128, by omega⟩ * wo (ix2 i b)

/-! ## The steps of the reference -/

def angA : FVec Ideal S2048x64 .f32 :=
  mulf (broadcastInDim S2048x64 ![0, 1] bcast_S2048x1_S2048x64_0_1 (sitofp .f32 (broadcastInDim S2048x1 ![0] bcast_S2048_S2048x1_0 (iotaInDim S2048 32 0))))
    (broadcastInDim S2048x64 ![0, 1] bcast_S1x64_S2048x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (sitofp .f32 (addi (broadcastInDim S64 ![] bcast_S_S64 (constantI S_ 32 0#32))
              (muli (broadcastInDim S64 ![] bcast_S_S64 (constantI S_ 32 2#32)) (iotaInDim S64 32 0))))
            (broadcastInDim S64 ![] bcast_S_S64 (constant S_ .f32 0x43000000#32)))))))
/-- An angle's value for both columns of its pair. -/
def twice (x : FVec Ideal S2048x64 .f32) : FVec Ideal S2048x128 .f32 :=
  shapeCast S2048x128 (broadcastInDim S2048x64x2 ![0, 1] bcast_S2048x64_S2048x64x2_0_1 x) shapeCasts_S2048x64x2_S2048x128
/-- A table for all heads. -/
def allHeads (x : FVec Ideal S2048x128 .f32) : FVec Ideal S1x2048x32x128 .f32 :=
  broadcastInDim S1x2048x32x128 ![0, 1, 2, 3] bcast_S1x2048x1x128_S1x2048x32x128_0_1_2_3
    (broadcastInDim S1x2048x1x128 ![1, 3] bcast_S2048x128_S1x2048x1x128_1_3 x)
def projA (x : FVec Ideal S2048x1024 .f32) (w : FVec Ideal S1024x4096 .f32) : FVec Ideal S1x2048x32x128 .f32 :=
  shapeCast S1x2048x32x128 (Host.dotGeneral dot_S1x2048x1024_S1024x4096_S1x2048x4096_2_0_01_1_n_n none
    (shapeCast S1x2048x1024 x shapeCasts_S2048x1024_S1x2048x1024) w) shapeCasts_S1x2048x4096_S1x2048x32x128
def swapA (P : FVec Ideal S1x2048x32x128 .f32) : FVec Ideal S1x2048x32x128 .f32 :=
  shapeCast S1x2048x32x128 (fn_main_v36
    (broadcastInDim S1x2048x32x64x1 ![0, 1, 2, 3] bcast_S1x2048x32x64_S1x2048x32x64x1_0_1_2_3 (Host.negf (shapeCast S1x2048x32x64
      (extractStridedSlice S1x2048x32x64x1 ![0, 0, 0, 0, 1] (shapeCast S1x2048x32x64x2 P shapeCasts_S1x2048x32x128_S1x2048x32x64x2)
        slices_S1x2048x32x64x2_S1x2048x32x64x1_0_0_0_0_1) shapeCasts_S1x2048x32x64x1_S1x2048x32x64)))
    (broadcastInDim S1x2048x32x64x1 ![0, 1, 2, 3] bcast_S1x2048x32x64_S1x2048x32x64x1_0_1_2_3 (shapeCast S1x2048x32x64
      (extractStridedSlice S1x2048x32x64x1 ![0, 0, 0, 0, 0] (shapeCast S1x2048x32x64x2 P shapeCasts_S1x2048x32x128_S1x2048x32x64x2)
        slices_S1x2048x32x64x2_S1x2048x32x64x1_0_0_0_0_0) shapeCasts_S1x2048x32x64x1_S1x2048x32x64))) shapeCasts_S1x2048x32x64x2_S1x2048x32x128
def turnA (P : FVec Ideal S1x2048x32x128 .f32) : FVec Ideal S1x2048x32x128 .f32 :=
  addf (mulf P (allHeads (twice (Host.cos angA)))) (mulf (swapA P) (allHeads (twice (Host.sin angA))))
def scoreA (Q K : FVec Ideal S1x2048x32x128 .f32) : FVec Ideal S1x32x2048x2048 .f32 :=
  mulf (Host.dotGeneral dot_S1x2048x32x128_S1x2048x32x128_S1x32x2048x2048_3_3_1_1_02_02 none Q K)
    (broadcastInDim S1x32x2048x2048 ![] bcast_S_S1x32x2048x2048 (constant S_ .f32 0x3DB504F3#32))
/-- A value per row, along the row. -/
def along (x : FVec Ideal S1x32x2048 .f32) : FVec Ideal S1x32x2048x2048 .f32 :=
  broadcastInDim S1x32x2048x2048 ![0, 1, 2, 3] bcast_S1x32x2048x1_S1x32x2048x2048_0_1_2_3
    (broadcastInDim S1x32x2048x1 ![0, 1, 2] bcast_S1x32x2048_S1x32x2048x1_0_1_2 x)
def expA (s : FVec Ideal S1x32x2048x2048 .f32) : FVec Ideal S1x32x2048x2048 .f32 :=
  Host.exp (subf s (along (Host.reduce FloatOps.maximumf s (constant S_ .f32 0xFF800000#32) reducesTo_S1x32x2048x2048_S1x32x2048_d3 h_S_)))
def normA (e : FVec Ideal S1x32x2048x2048 .f32) : FVec Ideal S1x32x2048x2048 .f32 :=
  Host.divf e (along (Host.reduceAdd e (constant S_ .f32 0x00000000#32) reducesTo_S1x32x2048x2048_S1x32x2048_d3 h_S_))
def ctxA (V : FVec Ideal S1x2048x32x128 .f32) (w : FVec Ideal S1x32x2048x2048 .f32) : FVec Ideal S1x2048x32x128 .f32 :=
  transpose S1x2048x32x128 [0, 3, 1, 2] (Host.dotGeneral dot_S1x2048x32x128_S1x32x2048x2048_S1x32x128x2048_1_3_3_2_02_01 none V w)
    transposes_S1x32x128x2048_S1x2048x32x128_0_3_1_2
def outA (c : FVec Ideal S1x2048x32x128 .f32) (wo : FVec Ideal S4096x1024 .f32) : FVec Ideal S2048x1024 .f32 :=
  shapeCast S2048x1024 (Host.dotGeneral dot_S1x2048x4096_S4096x1024_S1x2048x1024_2_0_01_1_n_n none
    (shapeCast S1x2048x4096 c shapeCasts_S1x2048x32x128_S1x2048x4096) wo) shapeCasts_S1x2048x1024_S2048x1024

set_option maxRecDepth 16384 in
theorem res_steps (m : (ℓ : Loc nD τ sig) → Buf (Elt Ideal) ℓ) (c : Dev nD) :
    (res_main_v82 m c : FVec Ideal S2048x1024 .f32)
      = outA (ctxA (projA (m ((c.tc : Thread nD τ).loc main_arg0)) (m ((c.tc : Thread nD τ).loc main_arg3)))
          (normA (expA (scoreA (turnA (projA (m ((c.tc : Thread nD τ).loc main_arg0)) (m ((c.tc : Thread nD τ).loc main_arg1))))
            (turnA (projA (m ((c.tc : Thread nD τ).loc main_arg0)) (m ((c.tc : Thread nD τ).loc main_arg2)))))))) (m ((c.tc : Thread nD τ).loc main_arg4)) := by
  unfold res_main_v82
  rfl

/-! ## Each step at an index -/

set_option maxRecDepth 16384

theorem cosA_at (p : Fin 2048) (d : Fin 128) : twice (Host.cos angA) (ix2 p d) = Ideal.cos (angR p d) := by
  pointwise [twice, angA]
  rfl
theorem sinA_at (p : Fin 2048) (d : Fin 128) : twice (Host.sin angA) (ix2 p d) = Ideal.sin (angR p d) := by
  pointwise [twice, angA]
  rfl
theorem projA_at (x : FVec Ideal S2048x1024 .f32) (w : FVec Ideal S1024x4096 .f32) (r : Fin 2048) (h : Fin 32) (d : Fin 128) :
    projA x w (ix4 0 r h d) = proj (fun r k => x (ix2 r k)) (hcol w h) r d := by
  pointwise [projA]
  rfl
theorem swapA_at (P : FVec Ideal S1x2048x32x128 .f32) (r : Fin 2048) (h : Fin 32) (d : Fin 128) :
    swapA P (ix4 0 r h d) = swap (fun d => P (ix4 0 r h d)) d := by
  pointwise [swapA, fn_main_v36]
  rfl
theorem turnA_at (P : FVec Ideal S1x2048x32x128 .f32) (r : Fin 2048) (h : Fin 32) (d : Fin 128) :
    turnA P (ix4 0 r h d) = turn (fun p d => Ideal.cos (angR p d)) (fun p d => Ideal.sin (angR p d)) (fun r d => P (ix4 0 r h d)) r d := by
  pointwise [turnA, allHeads]
  rw [cosA_at, sinA_at, swapA_at]
  rfl
theorem scoreA_at (Q K : FVec Ideal S1x2048x32x128 .f32) (h : Fin 32) (a t : Fin 2048) :
    scoreA Q K (ix4 0 h a t) = (∑ d, Q (ix4 0 a h d) * K (ix4 0 t h d)) * Ideal.ofBits .f32 0x3DB504F3#32 := by
  pointwise [scoreA]
theorem expA_at (s : FVec Ideal S1x32x2048x2048 .f32) (h : Fin 32) (a t : Fin 2048) :
    expA s (ix4 0 h a t) = Ideal.exp (s (ix4 0 h a t) - Finset.fold max (Ideal.ofBits .f32 0xFF800000#32) (fun u => s (ix4 0 h a u)) Finset.univ) := by
  pointwise [expA, along]
theorem normA_at (e : FVec Ideal S1x32x2048x2048 .f32) (h : Fin 32) (a t : Fin 2048) :
    normA e (ix4 0 h a t) = Ideal.div (e (ix4 0 h a t)) (∑ v, e (ix4 0 h a v)) := by
  pointwise [normA, along]
theorem ctxA_at (V : FVec Ideal S1x2048x32x128 .f32) (w : FVec Ideal S1x32x2048x2048 .f32) (h : Fin 32) (a : Fin 2048) (d : Fin 128) :
    ctxA V w (ix4 0 a h d) = ∑ t, V (ix4 0 t h d) * w (ix4 0 h a t) := by
  pointwise [ctxA]
theorem outA_at (c : FVec Ideal S1x2048x32x128 .f32) (wo : FVec Ideal S4096x1024 .f32) (a : Fin 2048) (b : Fin 1024) :
    outA c wo (ix2 a b) = ∑ i : Fin 4096, c (ix4 0 a ⟨i.val / 128, by omega⟩ ⟨i.val % 128, by omega⟩) * wo (ix2 i b) := by
  pointwise [outA]

theorem steps_at (x : FVec Ideal S2048x1024 .f32) (wq wk wv : FVec Ideal S1024x4096 .f32) (wo : FVec Ideal S4096x1024 .f32) (a : Fin 2048) (b : Fin 1024) :
    outA (ctxA (projA x wv) (normA (expA (scoreA (turnA (projA x wq)) (turnA (projA x wk)))))) wo (ix2 a b) = refAt x wq wk wv wo a b := by
  rw [outA_at]
  unfold refAt
  refine Finset.sum_congr rfl fun i _ => ?_
  rw [ctxA_at]
  simp only [normA_at, expA_at, scoreA_at, turnA_at, projA_at]
  rfl

theorem res_at (m : (ℓ : Loc nD τ sig) → Buf (Elt Ideal) ℓ) (c : Dev nD) (a : Fin 2048) (b : Fin 1024) :
    (res_main_v82 m c : FVec Ideal S2048x1024 .f32) (ix2 a b)
      = refAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) a b :=
  (congrFun (res_steps m c) (ix2 a b)).trans (steps_at _ _ _ _ _ a b)

end Cert.ReferenceIdeal.Value

end
-- ==== Proof.Equal.lean ====
/-
  The reference's sum over the columns of all heads is the devices' sums of the kernel, when the input and the
  query and key weights are real numbers.
-/
module

public import proofs.«01_k».proof.Proof.Total
public import proofs.«01_k».proof.Proof.RefVal

@[expose] public section

noncomputable section

namespace Cert.KernelIdeal.Vals

open Cert.KernelIdeal Cert.KernelIdeal.Gen Cert.KernelIdeal.Talk Cert.Heads
open Cert.ReferenceIdeal.Value (angR hcol refAt)
open Idealize.ShloMosaic
open Idealize.ShloMosaic.TcCoe

set_option maxRecDepth 16384

/-! ## The angles -/

theorem twiceWord_toInt : ∀ d : Fin 128,
    (IntOp.addi (0#32) (IntOp.muli (2#32) (BitVec.ofNat 32 (d.val / 2)))).toInt = ((2 * (d.val / 2) : ℕ) : ℤ) := by decide +kernel

/-- A power of ten thousand, as the exponential the kernel takes. -/
theorem rate_eq (k : ℝ) : 1 / (10000 : ℝ) ^ (2 * k * (1 / 128)) = Real.exp (k * -(64⁻¹ * Real.log 10000)) := by
  rw [Real.rpow_def_of_pos (by norm_num), one_div, ← Real.exp_neg]
  congr 1; ring

/-- The two programs take the same angles. -/
theorem angR_eq (p : Fin 2048) (d : Fin 128) : angR p d = angK p d := by
  rw [angK_eq]
  have hp : (BitVec.ofNat 32 p.val).toInt = (p.val : ℤ) := by
    have := p.isLt
    rw [BitVec.toInt_ofNat', Int.bmod_eq_of_le] <;> omega
  have e1 : FloatOps.sitofp (F := Ideal) FTy.f32 (BitVec.ofNat 32 p.val) = ((p.val : ℝ) : EReal) := by
    show ((((BitVec.ofNat 32 p.val).toInt : ℤ) : ℝ) : EReal) = _
    rw [hp]; norm_cast
  have e2 : FloatOps.sitofp (F := Ideal) FTy.f32 (IntOp.addi (0#32) (IntOp.muli (2#32) (BitVec.ofNat 32 (d.val / 2))))
      = ((2 * ((d.val / 2 : ℕ) : ℝ) : ℝ) : EReal) := by
    show ((((IntOp.addi (0#32) (IntOp.muli (2#32) (BitVec.ofNat 32 (d.val / 2)))).toInt : ℤ) : ℝ) : EReal) = _
    rw [twiceWord_toInt]; push_cast; rfl
  have hpos : (0 : ℝ) < (10000 : ℝ) ^ (2 * ((d.val / 2 : ℕ) : ℝ) * (1 / 128)) := Real.rpow_pos_of_pos (by norm_num) _
  unfold angR
  rw [e1, e2, Consts.bits_128, Consts.bits_10000, Ideal.div_coe (by norm_num), ← EReal.coe_mul, Ideal.pow_coe_coe]
  rw [show Real.rpow 10000 (2 * ((d.val / 2 : ℕ) : ℝ) * (1 / 128)) = (10000 : ℝ) ^ (2 * ((d.val / 2 : ℕ) : ℝ) * (1 / 128)) from rfl,
    Ideal.div_coe hpos.ne', one_mul, rate_eq, ← EReal.coe_mul]

theorem kC_real (p : Fin 2048) (d : Fin 128) : ∃ v : ℝ, kC p d = v := by unfold kC; rw [angK_eq, Ideal.cos_coe]; exact ⟨_, rfl⟩
theorem kS_real (p : Fin 2048) (d : Fin 128) : ∃ v : ℝ, kS p d = v := by unfold kS; rw [angK_eq, Ideal.sin_coe]; exact ⟨_, rfl⟩

/-! ## The sums -/

/-- Four devices of eight heads of 128 columns are all the columns. -/
theorem sum_cols (G : Fin 4096 → EReal) :
    ∑ i, G i = ∑ b : Fin 4, ∑ h : Fin 8, ∑ d : Fin 128, G ⟨(b.val * 8 + h.val) * 128 + d.val, by omega⟩ := by
  rw [Fin.sum_univ_tiles 32 128 rfl, Fin.sum_univ_tiles 4 8 rfl]

variable (I : Dev nD → In Ideal) (x : (⟨2, ![2048, 1024]⟩ : Shape).Idx → EReal) (wq wk wv : (⟨2, ![1024, 4096]⟩ : Shape).Idx → EReal)
  (wo : (⟨2, ![4096, 1024]⟩ : Shape).Idx → EReal)

/-- The devices hold their parts of the arrays. -/
structure Held : Prop where
  x : ∀ b r k, (I b).x (ix2 r k) = x (ix2 r k)
  wq : ∀ (b : Fin 4) (k : Fin 1024) (j : Fin 1024), (I b).wq (ix2 k j) = wq (ix2 k ⟨b.val * 1024 + j.val, by omega⟩)
  wk : ∀ (b : Fin 4) (k : Fin 1024) (j : Fin 1024), (I b).wk (ix2 k j) = wk (ix2 k ⟨b.val * 1024 + j.val, by omega⟩)
  wv : ∀ (b : Fin 4) (k : Fin 1024) (j : Fin 1024), (I b).wv (ix2 k j) = wv (ix2 k ⟨b.val * 1024 + j.val, by omega⟩)
  wo : ∀ (b : Fin 4) (j : Fin 1024) (n : Fin 1024), (I b).wo (ix2 j n) = wo (ix2 ⟨b.val * 1024 + j.val, by omega⟩ n)

variable {I x wq wk wv wo}

/-- A head's columns of a device's block are its columns in the whole array. -/
theorem cols_of {W : Vec Ideal S1024x1024 .f32} {V : (⟨2, ![1024, 4096]⟩ : Shape).Idx → EReal} (b : Fin 4)
    (hW : ∀ (k : Fin 1024) (j : Fin 1024), W (ix2 k j) = V (ix2 k ⟨b.val * 1024 + j.val, by omega⟩)) (h : Fin 8) :
    lcol W h = hcol V ⟨b.val * 8 + h.val, by omega⟩ := by
  funext k d
  refine (hW k _).trans (congrArg V (congrArg (ix2 k) (Fin.ext ?_)))
  show b.val * 1024 + (h.val * 128 + d.val) = (b.val * 8 + h.val) * 128 + d.val
  omega

/-- The devices' parts add up to the reference. -/
theorem parts_eq (H : Held I x wq wk wv wo) (hx : ∀ b r k, ∃ v : ℝ, (I b).x (ix2 r k) = v)
    (hq : ∀ b k j, ∃ v : ℝ, (I b).wq (ix2 k j) = v) (hk : ∀ b k j, ∃ v : ℝ, (I b).wk (ix2 k j) = v) (r : Fin 2048) (n : Fin 1024) :
    ∑ b, ∑ h, hpart (I b) h r n = refAt x wq wk wv wo r n := by
  unfold refAt
  rw [sum_cols]
  refine Finset.sum_congr rfl fun b _ => Finset.sum_congr rfl fun h _ => Finset.sum_congr rfl fun d _ => ?_
  have hb : b.val < 4 := b.isLt
  have hi : (⟨((b.val * 8 + h.val) * 128 + d.val) / 128, by omega⟩ : Fin 32) = ⟨b.val * 8 + h.val, by omega⟩ := Fin.ext (by show ((b.val * 8 + h.val) * 128 + d.val) / 128 = b.val * 8 + h.val; omega)
  have hd : (⟨((b.val * 8 + h.val) * 128 + d.val) % 128, by omega⟩ : Fin 128) = d := Fin.ext (by show ((b.val * 8 + h.val) * 128 + d.val) % 128 = d.val; omega)
  have hX : (fun (r : Fin 2048) (k : Fin 1024) => x (ix2 r k)) = rx (I b) := funext fun r => funext fun k => (H.x b r k).symm
  have hC : (fun p d => Ideal.cos (angR p d)) = kC := funext fun p => funext fun d => congrArg Ideal.cos (angR_eq p d)
  have hS : (fun p d => Ideal.sin (angR p d)) = kS := funext fun p => funext fun d => congrArg Ideal.sin (angR_eq p d)
  have ho : (I b).wo (ix2 ⟨h.val * 128 + d.val, by omega⟩ n) = wo (ix2 ⟨(b.val * 8 + h.val) * 128 + d.val, by omega⟩ n) :=
    (H.wo b _ n).trans (congrArg wo (congrArg (ix2 · n) (Fin.ext (by show b.val * 1024 + (h.val * 128 + d.val) = (b.val * 8 + h.val) * 128 + d.val; omega))))
  refine congrArg₂ (· * ·) ?_ ho
  show hctx (I b) h r d = ctxR _ _ _ _ (hcol wq ⟨((b.val * 8 + h.val) * 128 + d.val) / 128, _⟩) (hcol wk ⟨((b.val * 8 + h.val) * 128 + d.val) / 128, _⟩)
    (hcol wv ⟨((b.val * 8 + h.val) * 128 + d.val) / 128, _⟩) r ⟨((b.val * 8 + h.val) * 128 + d.val) % 128, _⟩
  rw [hi, hd, hX, hC, hS, ← cols_of b (H.wq b) h, ← cols_of b (H.wk b) h, ← cols_of b (H.wv b) h]
  exact ctx_eq _ _ _ _ _ _ _ Consts.bits_bot (fun r k => hx b r k) kC_real kS_real Consts.bits_scale (fun k d => hq b k _) (fun k d => hk b k _) r d

end Cert.KernelIdeal.Vals

end
-- ==== Proof.Entry.lean ====
/-
  What a launch begins with and ends with, as whole arrays: the windows are the arrays themselves.
-/
module

public import proofs.«01_k».proof.Proof.Frames
public import Idealize.ShloMosaic.Lib.Pipeline.ValueKit.Geometry

@[expose] public section

noncomputable section

namespace Cert.KernelIdeal.Body

open Cert.KernelIdeal Cert.KernelIdeal.Gen Cert.KernelIdeal.Talk Cert.KernelIdeal.Vals
open Idealize.ShloMosaic
open Idealize.ShloMosaic.TcCoe

variable {F : FTy → Type} [FloatOps F] [Named F] (m : (ℓ : Loc nD τ sig) → Buf (Elt F) ℓ) (ρ : Dev nD → PrngReg)

/-- The result array ends as what the body left in its buffer. -/
theorem final_out (c : Dev nD) : finalA m ρ c 5 = outT (inp m ρ) c := by
  refine (dats m ρ 0 c).arrAt_eq_of_after_last (5 : Fin 6) (0 : Fin 1) ⟨rfl, fun t _ => Fin.ext (Nat.lt_one_iff.1 (show t.val < 1 from t.isLt)), fun a => by fin_cases a <;> exact ⟨rfl, rfl⟩⟩ _ fun j => ?_
  rfl

/-! ## The body's operands are the argument arrays -/

theorem inp_x (c : Dev nD) : (inp m ρ c).x = m ((c.tc : Thread nD τ).loc main_arg0) := by
  funext i
  refine congrArg (m ((c.tc : Thread nD τ).loc main_arg0)) (funext fun a => Fin.ext ?_)
  fin_cases a <;> exact (by show 0 + 1 * _ = _; omega)
theorem inp_wq (c : Dev nD) : (inp m ρ c).wq = m ((c.tc : Thread nD τ).loc main_arg1) := by
  funext i
  refine congrArg (m ((c.tc : Thread nD τ).loc main_arg1)) (funext fun a => Fin.ext ?_)
  fin_cases a <;> exact (by show 0 + 1 * _ = _; omega)
theorem inp_wk (c : Dev nD) : (inp m ρ c).wk = m ((c.tc : Thread nD τ).loc main_arg2) := by
  funext i
  refine congrArg (m ((c.tc : Thread nD τ).loc main_arg2)) (funext fun a => Fin.ext ?_)
  fin_cases a <;> exact (by show 0 + 1 * _ = _; omega)
theorem inp_wv (c : Dev nD) : (inp m ρ c).wv = m ((c.tc : Thread nD τ).loc main_arg3) := by
  funext i
  refine congrArg (m ((c.tc : Thread nD τ).loc main_arg3)) (funext fun a => Fin.ext ?_)
  fin_cases a <;> exact (by show 0 + 1 * _ = _; omega)
theorem inp_wo (c : Dev nD) : (inp m ρ c).wo = m ((c.tc : Thread nD τ).loc main_arg4) := by
  funext i
  refine congrArg (m ((c.tc : Thread nD τ).loc main_arg4)) (funext fun a => Fin.ext ?_)
  fin_cases a <;> exact (by show 0 + 1 * _ = _; omega)

end Cert.KernelIdeal.Body

end
-- ==== Proof.Finite.lean ====
/-
  The precondition, read: the input and the query and key weights of every device are real numbers.
-/
module

public import proofs.«01_k».proof.Pre_finite_KernelIdeal
public import proofs.«01_k».proof.Pre_finite_ReferenceIdeal
public import proofs.«01_k».proof.Proof.Consts
public import Idealize.ShloMosaic.Lib.ReduceAll
public import Idealize.ShloMosaic.Lib.Pointwise

@[expose] public section

noncomputable section

namespace Cert.Finite

open Idealize.ShloMosaic

/-! ## The side conditions the two predicates state -/

theorem factsK : Cert.Pre_finite_KernelIdeal.Facts where
  bcast_S_S2048x1024 := by decide
  reducesTo_S2048x1024_S_d0_1 := by decide
  h_S_ := by decide
  bcast_S_S1024x1024 := by decide
  reducesTo_S1024x1024_S_d0_1 := by decide

theorem factsR : Cert.Pre_finite_ReferenceIdeal.Facts where
  bcast_S_S2048x1024 := by decide
  reducesTo_S2048x1024_S_d0_1 := by decide
  h_S_ := by decide
  bcast_S_S1024x4096 := by decide
  reducesTo_S1024x4096_S_d0_1 := by decide

/-- A number whose size is below infinity is real. -/
theorem real_of_lt {x : EReal} (h : Ideal.cmp .olt (max x (-x)) (Ideal.ofBits .f32 0x7F800000#32) = 1#1) : ∃ v : ℝ, x = v := by
  rw [Consts.bits_top] at h
  induction x with
  | bot => simp [Ideal.cmp] at h
  | top => simp [Ideal.cmp] at h
  | coe v => exact ⟨v, rfl⟩

/-- One conjunct of the predicate. -/
theorem real_of_all {s u : Shape} {axes : List (Fin s.rank)} (W : FVec Ideal s .f32) (T : FVec Ideal s .f32) (hT : ∀ i, T i = Ideal.ofBits .f32 0x7F800000#32)
    (init : IVec u 1) (h : s.ReducesTo axes Cert.Pre_finite_KernelIdeal.S_) (hu : 0 < u.numel) (j : Cert.Pre_finite_KernelIdeal.S_.Idx)
    (e : Host.reduce IntOp.andi (cmpf .olt (Host.absf W) T) init h hu j = 1#1) (i : s.Idx) : ∃ v : ℝ, W i = v := by
  haveI : Subsingleton Cert.Pre_finite_KernelIdeal.S_.Idx := ⟨fun a b => funext fun k => k.elim0⟩
  have := Host.reduce_andi_all _ _ h hu j e i
  refine real_of_lt ?_
  rw [← hT i]
  exact this

theorem finite_of [hP : Cert.Pre_finite_KernelIdeal.Facts] (x : FVec Ideal Cert.Pre_finite_KernelIdeal.S2048x1024 .f32)
    (wq wk wv wo : FVec Ideal Cert.Pre_finite_KernelIdeal.S1024x1024 .f32)
    (h : Cert.Pre_finite_KernelIdeal.fn (F := Ideal) x wq wk wv wo = fun _ => 1#1) :
    (∀ i, ∃ v : ℝ, x i = v) ∧ (∀ i, ∃ v : ℝ, wq i = v) ∧ ∀ i, ∃ v : ℝ, wk i = v := by
  have e := congrFun h (fun k => k.elim0)
  unfold Cert.Pre_finite_KernelIdeal.fn at e
  obtain ⟨e1, e3⟩ := IntOp.andi_eq_one.1 e
  obtain ⟨e1, e2⟩ := IntOp.andi_eq_one.1 e1
  exact ⟨real_of_all _ _ (fun _ => rfl) _ hP.reducesTo_S2048x1024_S_d0_1 hP.h_S_ (fun k => k.elim0) e1, real_of_all _ _ (fun _ => rfl) _ hP.reducesTo_S1024x1024_S_d0_1 hP.h_S_ (fun k => k.elim0) e2,
    real_of_all _ _ (fun _ => rfl) _ hP.reducesTo_S1024x1024_S_d0_1 hP.h_S_ (fun k => k.elim0) e3⟩

end Cert.Finite

end
-- ==== Proof.Final.lean ====
/-
  The algebraic claim: the kernel leaves the reference's result on every device.
-/
module

public import proofs.«01_k».proof.Defs
public import proofs.«01_k».proof.Proof.Equal
public import proofs.«01_k».proof.Proof.Entry
public import proofs.«01_k».proof.Proof.Finite

@[expose] public section

noncomputable section

namespace Cert.KernelIdeal.Body

open Cert.KernelIdeal Cert.KernelIdeal.Gen Cert.KernelIdeal.Talk Cert.KernelIdeal.Vals
open Idealize.ShloMosaic Idealize.SL.Sem
open Idealize.ShloMosaic.TcCoe
open Cert.ReferenceIdeal.Value (refAt res_at res_main_v82)

/-- Every index of a rectangle is the pair of its coordinates. -/
theorem ix2_eta {n k : Nat} (i : (⟨2, ![n, k]⟩ : Shape).Idx) : i = ix2 (i 0) (i 1) := by
  funext a; fin_cases a <;> rfl

section Blocks

variable {α : Type}

/-- A block of the columns, at a pair. -/
theorem block_cols (V : (⟨2, ![1024, 4096]⟩ : Shape).Idx → α) (h : Layout.Tiles ⟨2, ![1024, 1024]⟩ ⟨2, ![1024, 4096]⟩ 1 4) (b : Fin 4) (k j : Fin 1024) :
    Layout.block ⟨2, ![1024, 1024]⟩ ⟨2, ![1024, 4096]⟩ 1 4 b V h (ix2 k j) = V (ix2 k ⟨b.val * 1024 + j.val, by omega⟩) := by
  refine congrArg V (funext fun a => Fin.ext ?_)
  fin_cases a
  · exact (Layout.idx_cols_val h b (ix2 k j)).1
  · exact (Layout.idx_cols_val h b (ix2 k j)).2

/-- A block of the rows, at a pair. -/
theorem block_rows (V : (⟨2, ![4096, 1024]⟩ : Shape).Idx → α) (h : Layout.Tiles ⟨2, ![1024, 1024]⟩ ⟨2, ![4096, 1024]⟩ 0 4) (b : Fin 4) (j n : Fin 1024) :
    Layout.block ⟨2, ![1024, 1024]⟩ ⟨2, ![4096, 1024]⟩ 0 4 b V h (ix2 j n) = V (ix2 ⟨b.val * 1024 + j.val, by omega⟩ n) := by
  refine congrArg V (funext fun a => Fin.ext ?_)
  fin_cases a
  · exact (Layout.idx_rows_val h b (ix2 j n)).1
  · exact (Layout.idx_rows_val h b (ix2 j n)).2

end Blocks

/-- Over generic arrays: the devices' sums are the reference, entry by entry. -/
theorem sums_eq (I : Dev nD → In Ideal) (x : (⟨2, ![2048, 1024]⟩ : Shape).Idx → EReal) (wq wk wv : (⟨2, ![1024, 4096]⟩ : Shape).Idx → EReal)
    (wo : (⟨2, ![4096, 1024]⟩ : Shape).Idx → EReal)
    (hc : Layout.Tiles ⟨2, ![1024, 1024]⟩ ⟨2, ![1024, 4096]⟩ 1 4) (hr : Layout.Tiles ⟨2, ![1024, 1024]⟩ ⟨2, ![4096, 1024]⟩ 0 4)
    (ex : ∀ c, (I c).x = x) (eq : ∀ c : Fin 4, (I c).wq = Layout.block ⟨2, ![1024, 1024]⟩ ⟨2, ![1024, 4096]⟩ 1 4 c wq hc)
    (ek : ∀ c : Fin 4, (I c).wk = Layout.block ⟨2, ![1024, 1024]⟩ ⟨2, ![1024, 4096]⟩ 1 4 c wk hc)
    (ev : ∀ c : Fin 4, (I c).wv = Layout.block ⟨2, ![1024, 1024]⟩ ⟨2, ![1024, 4096]⟩ 1 4 c wv hc)
    (eo : ∀ c : Fin 4, (I c).wo = Layout.block ⟨2, ![1024, 1024]⟩ ⟨2, ![4096, 1024]⟩ 0 4 c wo hr)
    (fx : ∀ c i, ∃ v : ℝ, (I c).x i = v) (fq : ∀ c i, ∃ v : ℝ, (I c).wq i = v) (fk : ∀ c i, ∃ v : ℝ, (I c).wk i = v)
    (c : Dev nD) (r : Fin 2048) (n : Fin 1024) : outT I c (ix2 r n) = refAt x wq wk wv wo r n :=
  (outT_at I c r n).trans (parts_eq
    { x := fun b r k => congrFun (ex b) _
      wq := fun b k j => (congrFun (eq b) _).trans (block_cols wq hc b k j)
      wk := fun b k j => (congrFun (ek b) _).trans (block_cols wk hc b k j)
      wv := fun b k j => (congrFun (ev b) _).trans (block_cols wv hc b k j)
      wo := fun b j n => (congrFun (eo b) _).trans (block_rows wo hr b j n) }
    (fun b r k => fx b _) (fun b k j => fq b _) (fun b k j => fk b _) r n)

variable (m : (ℓ : Loc nD τ sig) → Buf (Elt Ideal) ℓ) (ρ : Dev nD → PrngReg)

/-- The run of the idealized kernel, read at its result too. -/
theorem value_run : θ_run defs (onTc (τ := τ) (main (F := Ideal))) ⟨m, fun _ => 0, ρ⟩ (fun r => ∀ c : Dev nD,
      r.2.mem ((c.tc : Thread nD τ).loc main_v1) = outT (inp m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1 c 5).trans (final_out m ρ c), (h.1 c 0).trans ((dats m ρ 0 c).arrAt_in 0 rfl _), (h.1 c 1).trans ((dats m ρ 0 c).arrAt_in 1 rfl _),
      (h.1 c 2).trans ((dats m ρ 0 c).arrAt_in 2 rfl _), (h.1 c 3).trans ((dats m ρ 0 c).arrAt_in 3 rfl _),
      (h.1 c 4).trans ((dats m ρ 0 c).arrAt_in 4 rfl _)⟩) (run_main m ρ)

/-- The kernel's and the reference's results are one array. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Finite.factsK) := by
  intro m g m' g' hpre hargs
  letI := Cert.Finite.factsK
  have hfin := fun c : Dev nD => Cert.Finite.finite_of _ _ _ _ _ (hpre c)
  have hval : ∀ c : Dev nD, (outT (inp m g) c : FVec Ideal S2048x1024 .f32) = res_main_v82 m' 0 := fun c => funext fun i => by
    rw [ix2_eta i]
    refine Eq.trans ?_ (res_at m' 0 _ _).symm
    exact sums_eq (inp m g) _ _ _ _ _ _ _ (fun c => (inp_x m g c).trans (hargs c).1) (fun c => (inp_wq m g c).trans (hargs c).2.1)
      (fun c => (inp_wk m g c).trans (hargs c).2.2.1) (fun c => (inp_wv m g c).trans (hargs c).2.2.2.1) (fun c => (inp_wo m g c).trans (hargs c).2.2.2.2)
      (fun c i => by rw [inp_x]; exact (hfin c).1 i) (fun c i => by rw [inp_wq]; exact (hfin c).2.1 i) (fun c i => by rw [inp_wk]; exact (hfin c).2.2 i) c _ _
  refine ⟨res_main_v82 m' 0, ?_, ?_⟩
  · exact (θ_run defs _ _).mono (fun r h c => ⟨(h c).1.trans (hval c), (h c).2⟩) (value_run m g)
  · exact (θ_run Cert.ReferenceIdeal.defs _ _).mono (fun r h => h 0) (Cert.ReferenceIdeal.Value.run (F := Ideal) m' g')

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Word.Frames
public import proofs.«01_k».proof.Proof.Final
public import Idealize.ShloMosaic.PureOps.IdealRules
public import Idealize.ShloMosaic.Adequacy
public import Idealize.ShloMosaic.Init

@[expose] public section

noncomputable section

namespace Cert.Proof

open Idealize.ShloMosaic Idealize.SL.Sem Cert.Kernel

/-- The reference's run, read at its arguments and its counters. -/
theorem reference_run : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts, Cert.Finite.factsK, Cert.Finite.factsR,
  fun m g _ => Cert.Kernel.Body.frame_run m g,
  fun m g _ => Cert.KernelIdeal.Body.frame_run m g,
  fun m g _ => Cert.KernelIdeal.Body.frame_run m g,
  reference_run,
  fun m g _ => reference_run m g trivial,
  IdealRules.named_const.statement Cert.KernelIdeal.κ "rope_rate" .f32 0xBE135D8E#32 ((-(64⁻¹ * (Real.log 10000)) : ℝ) : EReal) rfl,
  Cert.KernelIdeal.Body.algebraic⟩

end Cert.Proof

end
